-- ==== Defs.lean ====
def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel [hPre_experts_and_count_in_range : Cert.Pre_experts_and_count_in_range.Facts] (m : (ℓ : Loc Cert.Kernel.nD Cert.Kernel.τ Cert.Kernel.sig) → Buf (Elt Bits) ℓ) : Prop :=
  ∀ c : Dev Cert.Kernel.nD,
    (Cert.Pre_experts_and_count_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_experts_and_count_in_range : Cert.Pre_experts_and_count_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_experts_and_count_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_experts_and_count_in_range : Cert.Pre_experts_and_count_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_experts_and_count_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel [hKernel : Cert.Kernel.Facts] [hPre_experts_and_count_in_range : Cert.Pre_experts_and_count_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] [hPre_experts_and_count_in_range : Cert.Pre_experts_and_count_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] [hPre_experts_and_count_in_range : Cert.Pre_experts_and_count_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v17)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v17) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v16) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel_KernelIdeal : Prop :=
  True

def algebraic_KernelIdeal_ReferenceIdeal_on_rows_written [hKernelIdeal : Cert.KernelIdeal.Facts] [hReferenceIdeal : Cert.ReferenceIdeal.Facts] [hPre_experts_and_count_in_range : Cert.Pre_experts_and_count_in_range.Facts] [hOn_rows_written : Cert.On_rows_written.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![73728, 1024]⟩ : Shape).Idx, (Cert.On_rows_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) i = 1#1 → r.2.mem ((c.tc : Thread Cert.KernelIdeal.nD Cert.KernelIdeal.τ).loc Cert.KernelIdeal.main_v0) i = v0 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨2, ![73728, 1024]⟩ : Shape).Idx, (Cert.On_rows_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) i = 1#1 → r.2.mem ((c.tc : Thread Cert.ReferenceIdeal.nD Cert.ReferenceIdeal.τ).loc Cert.ReferenceIdeal.main_v68) i = v0 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel2 : Cert.Kernel2.Facts) (hKernel2Ideal : Cert.Kernel2Ideal.Facts) (hReference2Ideal : Cert.Reference2Ideal.Facts) (hKernel : Cert.Kernel.Facts) (hKernelIdeal : Cert.KernelIdeal.Facts) (hReferenceIdeal : Cert.ReferenceIdeal.Facts) (hPre_experts_and_count_in_range : Cert.Pre_experts_and_count_in_range.Facts) (hOn_rows_written : Cert.On_rows_written.Facts),
    quiescent_Kernel2 (hKernel2 := hKernel2)
    ∧ quiescent_Kernel2Ideal (hKernel2Ideal := hKernel2Ideal)
    ∧ quiescent_Reference2Ideal (hReference2Ideal := hReference2Ideal)
    ∧ quiescent_Kernel (hKernel := hKernel) (hPre_experts_and_count_in_range := hPre_experts_and_count_in_range)
    ∧ quiescent_KernelIdeal (hKernelIdeal := hKernelIdeal) (hPre_experts_and_count_in_range := hPre_experts_and_count_in_range)
    ∧ quiescent_ReferenceIdeal (hReferenceIdeal := hReferenceIdeal) (hPre_experts_and_count_in_range := hPre_experts_and_count_in_range)
    ∧ preserves_Kernel2_Kernel2Ideal
    ∧ algebraic_Kernel2Ideal_Reference2Ideal (hKernel2Ideal := hKernel2Ideal) (hReference2Ideal := hReference2Ideal)
    ∧ preserves_Kernel_KernelIdeal
    ∧ algebraic_KernelIdeal_ReferenceIdeal_on_rows_written (hKernelIdeal := hKernelIdeal) (hReferenceIdeal := hReferenceIdeal) (hPre_experts_and_count_in_range := hPre_experts_and_count_in_range) (hOn_rows_written := hOn_rows_written)
-- ==== On_rows_written.lean ====
abbrev S288 : Shape := ⟨1, ![288]⟩
abbrev S1 : Shape := ⟨1, ![1]⟩
abbrev S73728x1024 : Shape := ⟨2, ![73728, 1024]⟩
abbrev S32x1024x1024 : Shape := ⟨3, ![32, 1024, 1024]⟩
abbrev S32x1x1024 : Shape := ⟨3, ![32, 1, 1024]⟩
abbrev S_ : Shape := ⟨0, ![]⟩
abbrev S1x1 : Shape := ⟨2, ![1, 1]⟩

class Facts : Prop where
  bcast_S_S1 : S_.BroadcastsInDim S1 (![] : Fin 0 → Fin S1.rank)
  bcast_S1_S1x1_1 : S1.BroadcastsInDim S1x1 (![1] : Fin 1 → Fin S1x1.rank)
  bcast_S1x1_S73728x1024_0_1 : S1x1.BroadcastsInDim S73728x1024 (![0, 1] : Fin 2 → Fin S73728x1024.rank)

variable [Facts]

def fn {F : FTy → Type} [FloatOps F] (main_arg0 : IVec S288 32) (main_arg1 : IVec S1 32) (main_arg2 : FVec F S73728x1024 .bf16) (main_arg3 : FVec F S32x1024x1024 .f32) (main_arg4 : FVec F S32x1x1024 .f32) (main_arg5 : FVec F S32x1024x1024 .f32) (main_arg6 : FVec F S32x1x1024 .f32) (main_arg7 : FVec F S32x1024x1024 .f32) (main_arg8 : FVec F S32x1x1024 .f32) : IVec S73728x1024 1 :=
  let main_v0 : IVec S73728x1024 32 := iotaInDim S73728x1024 32 0
  let main_c : IVec S_ 32 := constantI S_ 32 256#32
  let main_v1 : IVec S1 32 := broadcastInDim S1 ![] bcast_S_S1 main_c
  let main_v2 : IVec S1 32 := muli main_v1 main_arg1
  let main_v3 : IVec S1x1 32 := broadcastInDim S1x1 ![1] bcast_S1_S1x1_1 main_v2
  let main_v4 : IVec S73728x1024 32 := broadcastInDim S73728x1024 ![0, 1] bcast_S1x1_S73728x1024_0_1 main_v3
  let main_v5 : IVec S73728x1024 1 := cmpi .slt main_v0 main_v4
  main_v5
-- ==== Pre_experts_and_count_in_range.lean ====
abbrev S288 : Shape := ⟨1, ![288]⟩
abbrev S1 : Shape := ⟨1, ![1]⟩
abbrev S73728x1024 : Shape := ⟨2, ![73728, 1024]⟩
abbrev S32x1024x1024 : Shape := ⟨3, ![32, 1024, 1024]⟩
abbrev S32x1x1024 : Shape := ⟨3, ![32, 1, 1024]⟩
abbrev S_ : Shape := ⟨0, ![]⟩

class Facts : Prop where
  bcast_S_S288 : S_.BroadcastsInDim S288 (![] : Fin 0 → Fin S288.rank)
  bcast_S_S1 : S_.BroadcastsInDim S1 (![] : Fin 0 → Fin S1.rank)
  bcast_S1_S288_0 : S1.BroadcastsInDim S288 (![0] : Fin 1 → Fin S288.rank)

variable [Facts]

def fn {F : FTy → Type} [FloatOps F] (main_arg0 : IVec S288 32) (main_arg1 : IVec S1 32) (main_arg2 : FVec F S73728x1024 .bf16) (main_arg3 : FVec F S32x1024x1024 .f32) (main_arg4 : FVec F S32x1x1024 .f32) (main_arg5 : FVec F S32x1024x1024 .f32) (main_arg6 : FVec F S32x1x1024 .f32) (main_arg7 : FVec F S32x1024x1024 .f32) (main_arg8 : FVec F S32x1x1024 .f32) : IVec S288 1 :=
  let main_c : IVec S_ 32 := constantI S_ 32 0#32
  let main_v0 : IVec S288 32 := broadcastInDim S288 ![] bcast_S_S288 main_c
  let main_v1 : IVec S288 1 := cmpi .sge main_arg0 main_v0
  let main_c_0 : IVec S_ 32 := constantI S_ 32 32#32
  let main_v2 : IVec S288 32 := broadcastInDim S288 ![] bcast_S_S288 main_c_0
  let main_v3 : IVec S288 1 := cmpi .slt main_arg0 main_v2
  let main_v4 : IVec S288 1 := andi main_v1 main_v3
  let main_c_1 : IVec S_ 32 := constantI S_ 32 1#32
  let main_v5 : IVec S1 32 := broadcastInDim S1 ![] bcast_S_S1 main_c_1
  let main_v6 : IVec S1 1 := cmpi .sge main_arg1 main_v5
  let main_v7 : IVec S288 1 := broadcastInDim S288 ![0] bcast_S1_S288_0 main_v6
  let main_v8 : IVec S288 1 := andi main_v4 main_v7
  let main_c_2 : IVec S_ 32 := constantI S_ 32 288#32
  let main_v9 : IVec S1 32 := broadcastInDim S1 ![] bcast_S_S1 main_c_2
  let main_v10 : IVec S1 1 := cmpi .sle main_arg1 main_v9
  let main_v11 : IVec S288 1 := broadcastInDim S288 ![0] bcast_S1_S288_0 main_v10
  let main_v12 : IVec S288 1 := andi main_v8 main_v11
  main_v12
-- ==== Kernel2.lean ====
abbrev S16384x1024 : Shape := ⟨2, ![16384, 1024]⟩
abbrev S1024x3096 : Shape := ⟨2, ![1024, 3096]⟩
abbrev S1024x256 : Shape := ⟨2, ![1024, 256]⟩
abbrev S1024x512 : Shape := ⟨2, ![1024, 512]⟩
abbrev S1024x768 : Shape := ⟨2, ![1024, 768]⟩
abbrev S1024x8 : Shape := ⟨2, ![1024, 8]⟩
abbrev S1024x128 : Shape := ⟨2, ![1024, 128]⟩
abbrev S1024x16 : Shape := ⟨2, ![1024, 16]⟩
abbrev S1024x8x64 : Shape := ⟨3, ![1024, 8, 64]⟩
abbrev S_ : Shape := ⟨0, ![]⟩
abbrev S1024x3712 : Shape := ⟨2, ![1024, 3712]⟩
abbrev S16384x3712 : Shape := ⟨2, ![16384, 3712]⟩
abbrev S512x1024 : Shape := ⟨2, ![512, 1024]⟩
abbrev S512x3712 : Shape := ⟨2, ![512, 3712]⟩

abbrev nBuf : Space → Nat
  | .hbm => 22
  | .vmem => 5
  | .smem => 0
  | _ => 0

abbrev bufTy : (tb : Table) → Fin (tcTables nBuf tb) → BufTy
  | .hbm, ⟨0, _⟩ => ⟨S16384x1024, .f32⟩
  | .hbm, ⟨1, _⟩ => ⟨S1024x3096, .f32⟩
  | .hbm, ⟨2, _⟩ => ⟨S1024x256, .f32⟩
  | .hbm, ⟨3, _⟩ => ⟨S1024x256, .f32⟩
  | .hbm, ⟨4, _⟩ => ⟨S1024x256, .f32⟩
  | .hbm, ⟨5, _⟩ => ⟨S1024x256, .f32⟩
  | .hbm, ⟨6, _⟩ => ⟨S1024x512, .f32⟩
  | .hbm, ⟨7, _⟩ => ⟨S1024x768, .f32⟩
  | .hbm, ⟨8, _⟩ => ⟨S1024x8, .f32⟩
  | .hbm, ⟨9, _⟩ => ⟨S1024x128, .f32⟩
  | .hbm, ⟨10, _⟩ => ⟨S1024x128, .f32⟩
  | .hbm, ⟨11, _⟩ => ⟨S1024x256, .f32⟩
  | .hbm, ⟨12, _⟩ => ⟨S1024x16, .f32⟩
  | .hbm, ⟨13, _⟩ => ⟨S1024x256, .f32⟩
  | .hbm, ⟨14, _⟩ => ⟨S1024x8x64, .f32⟩
  | .hbm, ⟨15, _⟩ => ⟨S1024x512, .f32⟩
  | .hbm, ⟨16, _⟩ => ⟨S_, .i32⟩
  | .hbm, ⟨17, _⟩ => ⟨S_, .f32⟩
  | .hbm, ⟨18, _⟩ => ⟨S1024x128, .f32⟩
  | .hbm, ⟨19, _⟩ => ⟨S1024x3712, .f32⟩
  | .hbm, ⟨20, _⟩ => ⟨S1024x3712, .bf16⟩
  | .hbm, ⟨21, _⟩ => ⟨S16384x3712, .f32⟩
  | .local _ .vmem, ⟨0, _⟩ => ⟨S512x1024, .f32⟩
  | .local _ .vmem, ⟨1, _⟩ => ⟨S512x1024, .f32⟩
  | .local _ .vmem, ⟨2, _⟩ => ⟨S1024x3712, .bf16⟩
  | .local _ .vmem, ⟨3, _⟩ => ⟨S512x3712, .f32⟩
  | .local _ .vmem, ⟨4, _⟩ => ⟨S512x3712, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_c : Ref sig .tc := ⟨.hbm, 16, rfl⟩
abbrev main_call0_v0 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x3712 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x3712 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference2Ideal.lean ====
abbrev S16384x1024 : Shape := ⟨2, ![16384, 1024]⟩
abbrev S1024x3096 : Shape := ⟨2, ![1024, 3096]⟩
abbrev S16384x3096 : Shape := ⟨2, ![16384, 3096]⟩
abbrev S16384x256 : Shape := ⟨2, ![16384, 256]⟩
abbrev S16384x512 : Shape := ⟨2, ![16384, 512]⟩
abbrev S16384x768 : Shape := ⟨2, ![16384, 768]⟩
abbrev S16384x8 : Shape := ⟨2, ![16384, 8]⟩
abbrev S16384x128 : Shape := ⟨2, ![16384, 128]⟩
abbrev S16384x16 : Shape := ⟨2, ![16384, 16]⟩
abbrev S16384x8x64 : Shape := ⟨3, ![16384, 8, 64]⟩
abbrev S_ : Shape := ⟨0, ![]⟩
abbrev S16384x3712 : Shape := ⟨2, ![16384, 3712]⟩

abbrev nBuf : Space → Nat
  | .hbm => 21
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x3096, .f32⟩
  | .hbm, ⟨2, _⟩ => ⟨S16384x3096, .f32⟩
  | .hbm, ⟨3, _⟩ => ⟨S16384x256, .f32⟩
  | .hbm, ⟨4, _⟩ => ⟨S16384x256, .f32⟩
  | .hbm, ⟨5, _⟩ => ⟨S16384x256, .f32⟩
  | .hbm, ⟨6, _⟩ => ⟨S16384x256, .f32⟩
  | .hbm, ⟨7, _⟩ => ⟨S16384x512, .f32⟩
  | .hbm, ⟨8, _⟩ => ⟨S16384x768, .f32⟩
  | .hbm, ⟨9, _⟩ => ⟨S16384x8, .f32⟩
  | .hbm, ⟨10, _⟩ => ⟨S16384x128, .f32⟩
  | .hbm, ⟨11, _⟩ => ⟨S16384x128, .f32⟩
  | .hbm, ⟨12, _⟩ => ⟨S16384x256, .f32⟩
  | .hbm, ⟨13, _⟩ => ⟨S16384x16, .f32⟩
  | .hbm, ⟨14, _⟩ => ⟨S16384x256, .f32⟩
  | .hbm, ⟨15, _⟩ => ⟨S16384x8x64, .f32⟩
  | .hbm, ⟨16, _⟩ => ⟨S16384x512, .f32⟩
  | .hbm, ⟨17, _⟩ => ⟨S_, .i32⟩
  | .hbm, ⟨18, _⟩ => ⟨S_, .f32⟩
  | .hbm, ⟨19, _⟩ => ⟨S16384x128, .f32⟩
  | .hbm, ⟨20, _⟩ => ⟨S16384x3712, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_c : Ref sig .tc := ⟨.hbm, 17, rfl⟩
abbrev main_call0_v0 : Ref sig .tc := ⟨.hbm, 18, rfl⟩
abbrev main_v15 : Ref sig .tc := ⟨.hbm, 19, rfl⟩
abbrev main_v16 : Ref sig .tc := ⟨.hbm, 20, rfl⟩

abbrev nD : Nat := 1
abbrev τ : Topo := Topo.v7x

variable {F : FTy → Type} [FloatOps F]
-- ==== Kernel.lean ====
abbrev S288 : Shape := ⟨1, ![288]⟩
abbrev S1 : Shape := ⟨1, ![1]⟩
abbrev S73728x1024 : Shape := ⟨2, ![73728, 1024]⟩
abbrev S32x1024x1024 : Shape := ⟨3, ![32, 1024, 1024]⟩
abbrev S32x1x1024 : Shape := ⟨3, ![32, 1, 1024]⟩
abbrev S256x1024 : Shape := ⟨2, ![256, 1024]⟩
abbrev S1x1024x1024 : Shape := ⟨3, ![1, 1024, 1024]⟩
abbrev S1x1x1024 : Shape := ⟨3, ![1, 1, 1024]⟩
abbrev S1024x1024 : Shape := ⟨2, ![1024, 1024]⟩
abbrev S1x1024 : Shape := ⟨2, ![1, 1024]⟩

abbrev nBuf : Space → Nat
  | .hbm => 8
  | .vmem => 19
  | .smem => 2
  | _ => 0

abbrev bufTy : (tb : Table) → Fin (tcTables nBuf tb) → BufTy
  | .hbm, ⟨0, _⟩ => ⟨S73728x1024, .bf16⟩
  | .hbm, ⟨1, _⟩ => ⟨S32x1024x1024, .f32⟩
  | .hbm, ⟨2, _⟩ => ⟨S32x1x1024, .f32⟩
  | .hbm, ⟨3, _⟩ => ⟨S32x1024x1024, .f32⟩
  | .hbm, ⟨4, _⟩ => ⟨S32x1x1024, .f32⟩
  | .hbm, ⟨5, _⟩ => ⟨S32x1024x1024, .f32⟩
  | .hbm, ⟨6, _⟩ => ⟨S32x1x1024, .f32⟩
  | .hbm, ⟨7, _⟩ => ⟨S73728x1024, .f32⟩
  | .local _ .vmem, ⟨0, _⟩ => ⟨S256x1024, .bf16⟩
  | .local _ .vmem, ⟨1, _⟩ => ⟨S256x1024, .bf16⟩
  | .local _ .vmem, ⟨2, _⟩ => ⟨S1x1024x1024, .f32⟩
  | .local _ .vmem, ⟨3, _⟩ => ⟨S1x1024x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1024x1024, .f32⟩
  | .local _ .vmem, ⟨7, _⟩ => ⟨S1x1024x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x1024x1024, .f32⟩
  | .local _ .vmem, ⟨11, _⟩ => ⟨S1x1024x1024, .f32⟩
  | .local _ .vmem, ⟨12, _⟩ => ⟨S1x1x1024, .f32⟩
  | .local _ .vmem, ⟨13, _⟩ => ⟨S1x1x1024, .f32⟩
  | .local _ .vmem, ⟨14, _⟩ => ⟨S256x1024, .f32⟩
  | .local _ .vmem, ⟨15, _⟩ => ⟨S256x1024, .f32⟩
  | .local _ .vmem, ⟨16, _⟩ => ⟨S1024x1024, .bf16⟩
  | .local _ .vmem, ⟨17, _⟩ => ⟨S1024x1024, .bf16⟩
  | .local _ .vmem, ⟨18, _⟩ => ⟨S1024x1024, .bf16⟩
  | .local _ .smem, ⟨0, _⟩ => ⟨S288, .i32⟩
  | .local _ .smem, ⟨1, _⟩ => ⟨S1, .i32⟩
  | _, _ => ⟨S73728x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_arg6 : Ref sig .tc := ⟨.hbm, 4, rfl⟩
abbrev main_arg7 : Ref sig .tc := ⟨.hbm, 5, rfl⟩
abbrev main_arg8 : Ref sig .tc := ⟨.hbm, 6, rfl⟩
abbrev main_v0 : Ref sig .tc := ⟨.hbm, 7, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![288], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32 : BitVec 32 := 1#32
  let v4 : BitVec 32 := Scalar.subi arg0 c1_i32
  let c0_i32 : BitVec 32 := 0#32
  let v5 : BitVec 32 := Scalar.maxsi v4 c0_i32
  let v6 : Index := Scalar.indexCast v5
  ![v6.toNat]
def k0_cond2 (i : grid0.Coords) (v0 : BitVec 32) : BitVec 1 :=
  let arg0 : BitVec 32 := BitVec.ofNat 32 (i 0).val
  let v1 : BitVec 1 := Scalar.cmpi .slt arg0 v0
  let v14 : BitVec 32 := Scalar.extui v1
  let c0_i32_2 : BitVec 32 := 0#32
  let v15 : BitVec 1 := Scalar.cmpi .ne v14 c0_i32_2
  v15

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_6 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_7 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceIdeal.lean ====
abbrev S288 : Shape := ⟨1, ![288]⟩
abbrev S1 : Shape := ⟨1, ![1]⟩
abbrev S73728x1024 : Shape := ⟨2, ![73728, 1024]⟩
abbrev S32x1024x1024 : Shape := ⟨3, ![32, 1024, 1024]⟩
abbrev S32x1x1024 : Shape := ⟨3, ![32, 1, 1024]⟩
abbrev S288x256x1024 : Shape := ⟨3, ![288, 256, 1024]⟩
abbrev S_ : Shape := ⟨0, ![]⟩
abbrev S288x1 : Shape := ⟨2, ![288, 1]⟩
abbrev S288x1024x1024 : Shape := ⟨3, ![288, 1024, 1024]⟩
abbrev S288x1x1024 : Shape := ⟨3, ![288, 1, 1024]⟩

abbrev nBuf : Space → Nat
  | .hbm => 102
  | .vmem => 0
  | .smem => 0
  | _ => 0

abbrev bufTy : (tb : Table) → Fin (tcTables nBuf tb) → BufTy
  | .hbm, ⟨0, _⟩ => ⟨S288, .i32⟩
  | .hbm, ⟨1, _⟩ => ⟨S1, .i32⟩
  | .hbm, ⟨2, _⟩ => ⟨S73728x1024, .bf16⟩
  | .hbm, ⟨3, _⟩ => ⟨S32x1024x1024, .f32⟩
  | .hbm, ⟨4, _⟩ => ⟨S32x1x1024, .f32⟩
  | .hbm, ⟨5, _⟩ => ⟨S32x1024x1024, .f32⟩
  | .hbm, ⟨6, _⟩ => ⟨S32x1x1024, .f32⟩
  | .hbm, ⟨7, _⟩ => ⟨S32x1024x1024, .f32⟩
  | .hbm, ⟨8, _⟩ => ⟨S32x1x1024, .f32⟩
  | .hbm, ⟨9, _⟩ => ⟨S73728x1024, .f32⟩
  | .hbm, ⟨10, _⟩ => ⟨S288x256x1024, .f32⟩
  | .hbm, ⟨11, _⟩ => ⟨S_, .i32⟩
  | .hbm, ⟨12, _⟩ => ⟨S288, .i32⟩
  | .hbm, ⟨13, _⟩ => ⟨S288, .i1⟩
  | .hbm, ⟨14, _⟩ => ⟨S_, .i32⟩
  | .hbm, ⟨15, _⟩ => ⟨S288, .i32⟩
  | .hbm, ⟨16, _⟩ => ⟨S288, .i32⟩
  | .hbm, ⟨17, _⟩ => ⟨S288, .i32⟩
  | .hbm, ⟨18, _⟩ => ⟨S288x1, .i32⟩
  | .hbm, ⟨19, _⟩ => ⟨S288x1024x1024, .f32⟩
  | .hbm, ⟨20, _⟩ => ⟨S288x256x1024, .f32⟩
  | .hbm, ⟨21, _⟩ => ⟨S_, .i32⟩
  | .hbm, ⟨22, _⟩ => ⟨S288, .i32⟩
  | .hbm, ⟨23, _⟩ => ⟨S288, .i1⟩
  | .hbm, ⟨24, _⟩ => ⟨S_, .i32⟩
  | .hbm, ⟨25, _⟩ => ⟨S288, .i32⟩
  | .hbm, ⟨26, _⟩ => ⟨S288, .i32⟩
  | .hbm, ⟨27, _⟩ => ⟨S288, .i32⟩
  | .hbm, ⟨28, _⟩ => ⟨S288x1, .i32⟩
  | .hbm, ⟨29, _⟩ => ⟨S288x1x1024, .f32⟩
  | .hbm, ⟨30, _⟩ => ⟨S288x256x1024, .f32⟩
  | .hbm, ⟨31, _⟩ => ⟨S288x256x1024, .f32⟩
  | .hbm, ⟨32, _⟩ => ⟨S_, .f32⟩
  | .hbm, ⟨33, _⟩ => ⟨S288x256x1024, .f32⟩
  | .hbm, ⟨34, _⟩ => ⟨S288x256x1024, .f32⟩
  | .hbm, ⟨35, _⟩ => ⟨S_, .i32⟩
  | .hbm, ⟨36, _⟩ => ⟨S288, .i32⟩
  | .hbm, ⟨37, _⟩ => ⟨S288, .i1⟩
  | .hbm, ⟨38, _⟩ => ⟨S_, .i32⟩
  | .hbm, ⟨39, _⟩ => ⟨S288, .i32⟩
  | .hbm, ⟨40, _⟩ => ⟨S288, .i32⟩
  | .hbm, ⟨41, _⟩ => ⟨S288, .i32⟩
  | .hbm, ⟨42, _⟩ => ⟨S288x1, .i32⟩
  | .hbm, ⟨43, _⟩ => ⟨S288x1024x1024, .f32⟩
  | .hbm, ⟨44, _⟩ => ⟨S288x256x1024, .f32⟩
  | .hbm, ⟨45, _⟩ => ⟨S_, .i32⟩
  | .hbm, ⟨46, _⟩ => ⟨S288, .i32⟩
  | .hbm, ⟨47, _⟩ => ⟨S288, .i1⟩
  | .hbm, ⟨48, _⟩ => ⟨S_, .i32⟩
  | .hbm, ⟨49, _⟩ => ⟨S288, .i32⟩
  | .hbm, ⟨50, _⟩ => ⟨S288, .i32⟩
  | .hbm, ⟨51, _⟩ => ⟨S288, .i32⟩
  | .hbm, ⟨52, _⟩ => ⟨S288x1, .i32⟩
  | .hbm, ⟨53, _⟩ => ⟨S288x1x1024, .f32⟩
  | .hbm, ⟨54, _⟩ => ⟨S288x256x1024, .f32⟩
  | .hbm, ⟨55, _⟩ => ⟨S288x256x1024, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S288x256x1024, .f32⟩
  | .hbm, ⟨60, _⟩ => ⟨S288x256x1024, .f32⟩
  | .hbm, ⟨61, _⟩ => ⟨S_, .f32⟩
  | .hbm, ⟨62, _⟩ => ⟨S288x256x1024, .f32⟩
  | .hbm, ⟨63, _⟩ => ⟨S288x256x1024, .f32⟩
  | .hbm, ⟨64, _⟩ => ⟨S_, .f32⟩
  | .hbm, ⟨65, _⟩ => ⟨S288x256x1024, .f32⟩
  | .hbm, ⟨66, _⟩ => ⟨S288x256x1024, .f32⟩
  | .hbm, ⟨67, _⟩ => ⟨S288x256x1024, .f32⟩
  | .hbm, ⟨68, _⟩ => ⟨S_, .f32⟩
  | .hbm, ⟨69, _⟩ => ⟨S288x256x1024, .f32⟩
  | .hbm, ⟨70, _⟩ => ⟨S288x256x1024, .f32⟩
  | .hbm, ⟨71, _⟩ => ⟨S288x256x1024, .f32⟩
  | .hbm, ⟨72, _⟩ => ⟨S288x256x1024, .f32⟩
  | .hbm, ⟨73, _⟩ => ⟨S_, .f32⟩
  | .hbm, ⟨74, _⟩ => ⟨S288x256x1024, .f32⟩
  | .hbm, ⟨75, _⟩ => ⟨S288x256x1024, .f32⟩
  | .hbm, ⟨76, _⟩ => ⟨S_, .f32⟩
  | .hbm, ⟨77, _⟩ => ⟨S288x256x1024, .f32⟩
  | .hbm, ⟨78, _⟩ => ⟨S288x256x1024, .f32⟩
  | .hbm, ⟨79, _⟩ => ⟨S288x256x1024, .f32⟩
  | .hbm, ⟨80, _⟩ => ⟨S_, .i32⟩
  | .hbm, ⟨81, _⟩ => ⟨S288, .i32⟩
  | .hbm, ⟨82, _⟩ => ⟨S288, .i1⟩
  | .hbm, ⟨83, _⟩ => ⟨S_, .i32⟩
  | .hbm, ⟨84, _⟩ => ⟨S288, .i32⟩
  | .hbm, ⟨85, _⟩ => ⟨S288, .i32⟩
  | .hbm, ⟨86, _⟩ => ⟨S288, .i32⟩
  | .hbm, ⟨87, _⟩ => ⟨S288x1, .i32⟩
  | .hbm, ⟨88, _⟩ => ⟨S288x1024x1024, .f32⟩
  | .hbm, ⟨89, _⟩ => ⟨S288x256x1024, .f32⟩
  | .hbm, ⟨90, _⟩ => ⟨S_, .i32⟩
  | .hbm, ⟨91, _⟩ => ⟨S288, .i32⟩
  | .hbm, ⟨92, _⟩ => ⟨S288, .i1⟩
  | .hbm, ⟨93, _⟩ => ⟨S_, .i32⟩
  | .hbm, ⟨94, _⟩ => ⟨S288, .i32⟩
  | .hbm, ⟨95, _⟩ => ⟨S288, .i32⟩
  | .hbm, ⟨96, _⟩ => ⟨S288, .i32⟩
  | .hbm, ⟨97, _⟩ => ⟨S288x1, .i32⟩
  | .hbm, ⟨98, _⟩ => ⟨S288x1x1024, .f32⟩
  | .hbm, ⟨99, _⟩ => ⟨S288x256x1024, .f32⟩
  | .hbm, ⟨100, _⟩ => ⟨S288x256x1024, .f32⟩
  | .hbm, ⟨101, _⟩ => ⟨S73728x1024, .f32⟩
  | _, _ => ⟨S288, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_c : Ref sig .tc := ⟨.hbm, 11, rfl⟩
abbrev main_v2 : Ref sig .tc := ⟨.hbm, 12, rfl⟩
abbrev main_v3 : Ref sig .tc := ⟨.hbm, 13, rfl⟩
abbrev main_c_0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_c_1 : Ref sig .tc := ⟨.hbm, 21, rfl⟩
abbrev main_v10 : Ref sig .tc := ⟨.hbm, 22, rfl⟩
abbrev main_v11 : Ref sig .tc := ⟨.hbm, 23, rfl⟩
abbrev main_c_2 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst : Ref sig .tc := ⟨.hbm, 32, rfl⟩
abbrev main_v19 : Ref sig .tc := ⟨.hbm, 33, rfl⟩
abbrev main_v20 : Ref sig .tc := ⟨.hbm, 34, rfl⟩
abbrev main_c_3 : Ref sig .tc := ⟨.hbm, 35, rfl⟩
abbrev main_v21 : Ref sig .tc := ⟨.hbm, 36, rfl⟩
abbrev main_v22 : Ref sig .tc := ⟨.hbm, 37, rfl⟩
abbrev main_c_4 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_c_5 : Ref sig .tc := ⟨.hbm, 45, rfl⟩
abbrev main_v29 : Ref sig .tc := ⟨.hbm, 46, rfl⟩
abbrev main_v30 : Ref sig .tc := ⟨.hbm, 47, rfl⟩
abbrev main_c_6 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_7 : Ref sig .tc := ⟨.hbm, 56, rfl⟩
abbrev main_cst_8 : Ref sig .tc := ⟨.hbm, 57, rfl⟩
abbrev main_call0_v0 : Ref sig .tc := ⟨.hbm, 58, rfl⟩
abbrev main_call0_v1 : Ref sig .tc := ⟨.hbm, 59, rfl⟩
abbrev main_call0_v2 : Ref sig .tc := ⟨.hbm, 60, rfl⟩
abbrev main_call0_v3 : Ref sig .tc := ⟨.hbm, 61, rfl⟩
abbrev main_call0_v4 : Ref sig .tc := ⟨.hbm, 62, rfl⟩
abbrev main_v38 : Ref sig .tc := ⟨.hbm, 63, rfl⟩
abbrev main_cst_9 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_cst_10 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_cst_11 : Ref sig .tc := ⟨.hbm, 73, rfl⟩
abbrev main_v46 : Ref sig .tc := ⟨.hbm, 74, rfl⟩
abbrev main_v47 : Ref sig .tc := ⟨.hbm, 75, rfl⟩
abbrev main_cst_12 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_c_13 : Ref sig .tc := ⟨.hbm, 80, rfl⟩
abbrev main_v51 : Ref sig .tc := ⟨.hbm, 81, rfl⟩
abbrev main_v52 : Ref sig .tc := ⟨.hbm, 82, rfl⟩
abbrev main_c_14 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_c_15 : Ref sig .tc := ⟨.hbm, 90, rfl⟩
abbrev main_v59 : Ref sig .tc := ⟨.hbm, 91, rfl⟩
abbrev main_v60 : Ref sig .tc := ⟨.hbm, 92, rfl⟩
abbrev main_c_16 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩

abbrev nD : Nat := 1
abbrev τ : Topo := Topo.v7x

variable {F : FTy → Type} [FloatOps F]
-- ==== Proof.InprojSel.lean ====
module

public import proofs.«01_k».proof.Proof.Gen.Kernel2Ideal.Frame
public import proofs.«01_k».proof.Proof.Gen.Reference2Ideal.Read
public import Idealize.ShloMosaic.Lib.Pointwise
public import Idealize.ShloMosaic.Lib.Pipeline.ValueKit

@[expose] public section

/-! The input projection: which column of the plain product each column of the relaid one copies. -/

set_option maxRecDepth 16384

noncomputable section

namespace Cert.Kernel2Ideal.RefValue

open Cert.Kernel2Ideal Cert.Kernel2Ideal.Gen Idealize.ShloMosaic Idealize.ShloMosaic.TcCoe Idealize.SL.Sem

variable (m : (ℓ : Loc nD τ sig) → Buf (Elt Ideal) ℓ) (ρ : Dev nD → PrngReg)

/-- The column of the plain weight (or of the plain product) that column `j` of the relaid one copies; the columns that
    fill up the low rank gate's segment hold zero. -/
def sel (f : Fin 3096 → EReal) (j : Fin 3712) : EReal :=
  if h : j.val < 2304 then f ⟨j.val, by omega⟩
  else if h : j.val < 2816 then f ⟨2304 + (j.val - 2304) / 64, by omega⟩
  else if h : j.val < 3344 then f ⟨j.val - 504, by omega⟩
  else if h : j.val < 3456 then 0
  else f ⟨j.val - 616, by omega⟩

/-- A choice equals what both its branches equal. -/
theorem dite_val {α : Type} {P : Prop} [Decidable P] {a : P → α} {b : ¬P → α} {c : α}
    (h1 : ∀ h, a h = c) (h2 : ∀ h, b h = c) : dite P a b = c := by
  by_cases h : P
  · exact (dif_pos h).trans (h1 h)
  · exact (dif_neg h).trans (h2 h)

/-- The word the host converts for the fill is zero. -/
theorem fill : (FloatOps.sitofp (F := Ideal) FTy.f32 0#32 : EReal) = 0 := by
  show (((0#32 : BitVec 32).toInt : ℝ) : EReal) = 0
  simp

open Cert.Reference2Ideal.Read Idealize.ShloMosaic in
set_option maxHeartbeats 2000000 in
/-- The reference at one index: an entry of the plain product, or zero. -/
theorem ref_at (x : (⟨Cert.Reference2Ideal.S16384x1024, .f32⟩ : BufTy).Contents (Elt Ideal)) (w : (⟨Cert.Reference2Ideal.S1024x3096, .f32⟩ : BufTy).Contents (Elt Ideal))
    (r : Fin 16384) (j : Fin 3712) :
    val_main_v16 (F := Ideal) x w (ix2 r j) = sel (fun c => val_main_v0 (F := Ideal) x w (ix2 r c)) j := by
  pointwise [val_main_v1, val_main_v2, val_main_v3, val_main_v4, val_main_v5, val_main_v6, val_main_v7,
    val_main_v8, val_main_v9, val_main_v10, val_main_v11, val_main_v12, val_main_v13, val_main_v14, val_main_c,
    val_main_call0_v0, val_main_v15, val_main_v16, sel]
  have key : ∀ a b : Fin 3096, a.val = b.val → val_main_v0 (F := Ideal) x w (ix2 r a) = val_main_v0 (F := Ideal) x w (ix2 r b) := fun a b h => by rw [Fin.ext h]
  repeat' refine dite_val (fun h => ?_) (fun h => ?_)
  all_goals symm
  all_goals repeat' refine dite_val (fun h => ?_) (fun h => ?_)
  all_goals first
    | (exfalso; omega)
    | exact fill.symm
    | (refine key _ _ ?_; dsimp only <;> omega)

/-- A product with a relaid weight is the relaid product. -/
theorem sum_sel (x : Fin 1024 → EReal) (w : Fin 1024 → Fin 3096 → EReal) (j : Fin 3712) :
    ∑ k, x k * sel (w k) j = sel (fun c => ∑ k, x k * w k c) j := by
  unfold sel
  repeat' split
  all_goals simp

open Cert.Reference2Ideal.Read in
/-- The plain product at one index. -/
theorem dot_at (x : (⟨Cert.Reference2Ideal.S16384x1024, .f32⟩ : BufTy).Contents (Elt Ideal)) (w : (⟨Cert.Reference2Ideal.S1024x3096, .f32⟩ : BufTy).Contents (Elt Ideal))
    (r : Fin 16384) (j : Fin 3096) :
    val_main_v0 (F := Ideal) x w (ix2 r j) = (∑ k : Fin 1024, (x (ix2 r k) : EReal) * w (ix2 k j) : EReal) := by
  pointwise! [val_main_v0]

end Cert.Kernel2Ideal.RefValue

end
-- ==== Proof.InprojWeight.lean ====
module

public import proofs.«01_k».proof.Proof.Gen.Kernel2Ideal.Frame
public import proofs.«01_k».proof.Proof.InprojSel
public import Idealize.ShloMosaic.Lib.Pointwise
public import Idealize.ShloMosaic.Lib.Pipeline.ValueKit

@[expose] public section

/-! The input projection: the relaid weight that the region finds. -/

set_option maxRecDepth 16384

noncomputable section

namespace Cert.Kernel2Ideal.RefValue

open Cert.Kernel2Ideal Cert.Kernel2Ideal.Gen Idealize.ShloMosaic Idealize.ShloMosaic.TcCoe Idealize.SL.Sem

variable (m : (ℓ : Loc nD τ sig) → Buf (Elt Ideal) ℓ) (ρ : Dev nD → PrngReg)

/-- The weight with its columns relaid, as the host writes it. -/
def relaid (w : FVec Ideal S1024x3096 .f32) : FVec Ideal S1024x3712 .bf16 :=
  truncf .bf16 (concatenate S1024x3712 1 [⟨S1024x256, (extractStridedSlice S1024x256 ![0, 0] w slices_S1024x3096_S1024x256_0_0 : FVec Ideal S1024x256 .f32)⟩,
    ⟨S1024x256, (extractStridedSlice S1024x256 ![0, 256] w slices_S1024x3096_S1024x256_0_256 : FVec Ideal S1024x256 .f32)⟩,
    ⟨S1024x256, (extractStridedSlice S1024x256 ![0, 512] w slices_S1024x3096_S1024x256_0_512 : FVec Ideal S1024x256 .f32)⟩,
    ⟨S1024x256, (extractStridedSlice S1024x256 ![0, 768] w slices_S1024x3096_S1024x256_0_768 : FVec Ideal S1024x256 .f32)⟩,
    ⟨S1024x512, (extractStridedSlice S1024x512 ![0, 1024] w slices_S1024x3096_S1024x512_0_1024 : FVec Ideal S1024x512 .f32)⟩,
    ⟨S1024x768, (extractStridedSlice S1024x768 ![0, 1536] w slices_S1024x3096_S1024x768_0_1536 : FVec Ideal S1024x768 .f32)⟩,
    ⟨S1024x512, (shapeCast S1024x512 (broadcastInDim S1024x8x64 ![0, 1] bcast_S1024x8_S1024x8x64_0_1 (extractStridedSlice S1024x8 ![0, 2304] w slices_S1024x3096_S1024x8_0_2304)) shapeCasts_S1024x8x64_S1024x512 : FVec Ideal S1024x512 .f32)⟩,
    ⟨S1024x128, (extractStridedSlice S1024x128 ![0, 2312] w slices_S1024x3096_S1024x128_0_2312 : FVec Ideal S1024x128 .f32)⟩,
    ⟨S1024x128, (extractStridedSlice S1024x128 ![0, 2440] w slices_S1024x3096_S1024x128_0_2440 : FVec Ideal S1024x128 .f32)⟩,
    ⟨S1024x256, (extractStridedSlice S1024x256 ![0, 2568] w slices_S1024x3096_S1024x256_0_2568 : FVec Ideal S1024x256 .f32)⟩,
    ⟨S1024x128, (pad S1024x128 ![0, 0] ![0, 112] ![0, 0] (extractStridedSlice S1024x16 ![0, 2824] w slices_S1024x3096_S1024x16_0_2824) (sitofp .f32 (constantI S_ 32 0#32)) pads_S1024x16_S1024x128_000_01120 h_S_ : FVec Ideal S1024x128 .f32)⟩,
    ⟨S1024x256, (extractStridedSlice S1024x256 ![0, 2840] w slices_S1024x3096_S1024x256_0_2840 : FVec Ideal S1024x256 .f32)⟩] concatenates_S1024x256_S1024x256_S1024x256_S1024x256_S1024x512_S1024x768_S1024x512_S1024x128_S1024x128_S1024x256_S1024x128_S1024x256_S1024x3712_d1 : FVec Ideal S1024x3712 .f32) bitsLt_bf16_f32

set_option maxHeartbeats 2000000 in
/-- What the region finds at its weight operand. -/
theorem entry (c : Dev nD) : V m c main_v16 = relaid (m ((c : Thread nD τ).loc main_arg1)) := by
  unfold V
  simp only [List.flatten, List.append, hostOps0, hostOps0_1, hostOps0_2, StableHlo.TRef.binary, StableHlo.TRef.unary, StableHlo.TRef.toBuf, StableHlo.TRef.ofBuf, cast_eq]
  after_results
  rfl

set_option maxHeartbeats 2000000 in
/-- The relaid weight that the region finds, at one index. -/
theorem weight_at (c : Dev nD) (k : Fin 1024) (j : Fin 3712) :
    (V m c main_v16 : (⟨S1024x3712, .bf16⟩ : BufTy).Contents (Elt Ideal)) (ix2 k j)
      = sel (fun c' => (m ((c : Thread nD τ).loc main_arg1) : (⟨S1024x3096, .f32⟩ : BufTy).Contents (Elt Ideal)) (ix2 k c')) j := by
  rw [entry]
  pointwise [relaid, sel]
  have key : ∀ a b : Fin 3096, a.val = b.val → (m ((c : Thread nD τ).loc main_arg1) : (⟨S1024x3096, .f32⟩ : BufTy).Contents (Elt Ideal)) (ix2 k a) = (m ((c : Thread nD τ).loc main_arg1) : (⟨S1024x3096, .f32⟩ : BufTy).Contents (Elt Ideal)) (ix2 k b) := fun a b h => by rw [Fin.ext h]
  repeat' refine dite_val (fun h => ?_) (fun h => ?_)
  all_goals symm
  all_goals repeat' refine dite_val (fun h => ?_) (fun h => ?_)
  all_goals first
    | (exfalso; omega)
    | exact fill.symm
    | (refine key _ _ ?_; dsimp only <;> omega)

end Cert.Kernel2Ideal.RefValue

end
-- ==== Proof.InprojValue.lean ====
module

public import proofs.«01_k».proof.Proof.Gen.Kernel2Ideal.Frame
public import proofs.«01_k».proof.Proof.InprojWeight
public import Idealize.ShloMosaic.Lib.Pointwise
public import Idealize.ShloMosaic.Lib.Pipeline.ValueKit

@[expose] public section

/-! The input projection: the array that the tiled product leaves is the plain product with its columns
    relaid, index by index. -/

set_option maxRecDepth 16384

noncomputable section

namespace Cert.Kernel2Ideal.RefValue

open Cert.Kernel2Ideal Cert.Kernel2Ideal.Gen Idealize.ShloMosaic Idealize.ShloMosaic.TcCoe Idealize.SL.Sem

variable (m : (ℓ : Loc nD τ sig) → Buf (Elt Ideal) ℓ) (ρ : Dev nD → PrngReg)

/-- The blocks of grid point `t`: rows `512 t …` of the activations and of the result, the whole weight. -/
theorem idx : ∀ t : Fin cfg0.N, win0_0.index t = ![t.val, 0] ∧ win0_1.index t = ![0, 0] ∧ win0_2.index t = ![t.val, 0] :=
  (by decide +kernel : ∀ t : Fin grid0.N, _)

open Cert.Reference2Ideal.Read in
/-- What the body computes from a block of rows and the whole weight. -/
theorem pay_at (v0 : Vec Ideal S512x1024 .f32) (v2 : Vec Ideal S1024x3712 .bf16) (y0 : Fin 512) (y1 : Fin 3712) :
    k0_pay1 v0 v2 (ix2 y0 y1) = (∑ k : Fin 1024, (v0 (ix2 y0 k) : EReal) * v2 (ix2 k y1) : EReal) := by
  pointwise! [k0_pay1]

open Cert.Reference2Ideal.Read in
/-- What grid point `t` computes is the relaid product, read at the block's place. -/
theorem point (c : Dev nD) (t : Fin cfg0.N) (y) :
    k0_pay1 (iblk m c 0 t) (iblk m c 1 t) y
      = val_main_v16 (F := Ideal) (m ((c : Thread nD τ).loc main_arg0)) (m ((c : Thread nD τ).loc main_arg1))
          (((cfg0.win 2).blk t).view.emb y) := by
  idx_vars y
  have ht : t.val < 32 := t.isLt
  have e : ((cfg0.win 2).blk t).view.emb (ix2 y0 y1) = ix2 (⟨t.val * 512 + y0.val, by omega⟩ : Fin 16384) y1 := by
    blk_ext [idx t]
  rw [e, ref_at, pay_at]
  simp only [dot_at]
  refine Eq.trans ?_ (sum_sel _ _ _)
  refine Finset.sum_congr rfl fun k _ => ?_
  refine Ideal.mul_congr ?_ ?_
  · blk_point [iblk, idx t]
  · refine Eq.trans ?_ (weight_at m c k y1)
    blk_point [iblk, idx t]

/-- The whole array after the run. -/
theorem final (c : Dev nD) : (dats m 0 c).arrAt 2 (cfgs 0).N
    = Cert.Reference2Ideal.Read.val_main_v16 (F := Ideal) (m ((c : Thread nD τ).loc main_arg0)) (m ((c : Thread nD τ).loc main_arg1)) := by
  refine (dats m 0 c).arrAt_eq_of_covers 2 _ (by decide +kernel) fun t _ y => ?_
  blk_simp
  rw [after0_2]
  frame_out
  exact point m c t y

end Cert.Kernel2Ideal.RefValue

end
-- ==== Proof.InprojBridge.lean ====
module

public import proofs.«01_k».proof.Proof.InprojValue
public import proofs.«01_k».proof.Proof.Gen.Reference2Ideal.Run
public import proofs.«01_k».proof.Proof.Gen.Reference2Ideal.Read

@[expose] public section

/-! The input projection: what the reference's run leaves, stated as what the kernel's tiles leave when both
    start from the same arguments. -/

noncomputable section

namespace Cert.Proof.Bridge

open Idealize.ShloMosaic Idealize.ShloMosaic.TcCoe Idealize.SL.Sem

/-- From equal arguments, the reference's result is the array the kernel's grid leaves. -/
theorem same (m : (ℓ : Loc Cert.Kernel2Ideal.nD Cert.Kernel2Ideal.τ Cert.Kernel2Ideal.sig) → Buf (Elt Ideal) ℓ)
    (m' : (ℓ : Loc Cert.Reference2Ideal.nD Cert.Reference2Ideal.τ Cert.Reference2Ideal.sig) → Buf (Elt Ideal) ℓ)
    (c : Dev Cert.Kernel2Ideal.nD)
    (h0 : m' ((c.tc : Thread Cert.Reference2Ideal.nD Cert.Reference2Ideal.τ).loc Cert.Reference2Ideal.main_arg0)
      = m ((c.tc : Thread Cert.Kernel2Ideal.nD Cert.Kernel2Ideal.τ).loc Cert.Kernel2Ideal.main_arg0))
    (h1 : m' ((c.tc : Thread Cert.Reference2Ideal.nD Cert.Reference2Ideal.τ).loc Cert.Reference2Ideal.main_arg1)
      = m ((c.tc : Thread Cert.Kernel2Ideal.nD Cert.Kernel2Ideal.τ).loc Cert.Kernel2Ideal.main_arg1)) :
    Cert.Reference2Ideal.Value.res_main_v16 m' c
      = (Cert.Kernel2Ideal.Gen.dats m 0 c).arrAt 2 (Cert.Kernel2Ideal.cfgs 0).N :=
  (Cert.Reference2Ideal.Read.val_main_v16_eq m' c).trans
    ((congrArg₂ (fun a b => Cert.Reference2Ideal.Read.val_main_v16 (F := Ideal) a b) h0 h1).trans
      (Cert.Kernel2Ideal.RefValue.final m c).symm)

end Cert.Proof.Bridge

end
-- ==== Proof.FfnIdealKit.lean ====
module

public import proofs.«01_k».proof.Proof.Gen.KernelIdeal.Launch
public import proofs.«01_k».proof.Proof.Gen.KernelIdeal.Skeleton
public import Idealize.ShloMosaic.Lib.Pipeline.FrameBody
public import Idealize.ShloMosaic.Lib.Ring
public import Idealize.ShloMosaic.Lib.Tactic
public import Idealize.ShloMosaic.Lib.WordCmp

@[expose] public section

/-! The expert feed-forward call: what the runs of its body are stated over. The arrays as the region finds them, the two
tables (the expert of each block, the number of blocks in use), the windows' blocks, the staging and scratch memrefs and
the body's two branch conditions. -/

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: as launched (@main is the region alone). -/
abbrev V (c : Dev nD) (b : Ref sig .tc) : Buf (Elt F) ((c : Thread nD τ).loc b) := m ((c : Thread nD τ).loc b)

set_option maxHeartbeats 800000 in
/-- @main up to the region, at the certificate's variants `𝒱₀`: the region alone (`Pipeline.hmain_region` off
    `main_chain`). -/
theorem hmain (𝒱₀ : Variants) : Pipeline.HMainP (Ix := Unit) (Name := ℕ) (U := UR sig nD τ) (Lvl := ℕ) pcfgs 0 defs₀ 𝒱₀ m (main (F := F)) (V m) :=
  Pipeline.hmainP_region pcfgs 0 defs₀ 𝒱₀ m main fun c => (main_chain c).trans rfl

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl
theorem V_main_arg3 (c : Dev nD) : V m c main_arg3 = m ((c : Thread nD τ).loc main_arg3) := rfl
theorem V_main_arg4 (c : Dev nD) : V m c main_arg4 = m ((c : Thread nD τ).loc main_arg4) := rfl
theorem V_main_arg5 (c : Dev nD) : V m c main_arg5 = m ((c : Thread nD τ).loc main_arg5) := rfl
theorem V_main_arg6 (c : Dev nD) : V m c main_arg6 = m ((c : Thread nD τ).loc main_arg6) := rfl
theorem V_main_arg7 (c : Dev nD) : V m c main_arg7 = m ((c : Thread nD τ).loc main_arg7) := rfl
theorem V_main_arg8 (c : Dev nD) : V m c main_arg8 = m ((c : Thread nD τ).loc main_arg8) := rfl

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 2) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S288 .i32 := Memref.whole main_arg0
abbrev htbM0_0 : tbM0_0.IsWhole := Memref.isWhole_whole _
abbrev tbM0_1 : Memref sig .tc .smem S1 .i32 := Memref.whole main_arg1
abbrev htbM0_1 : tbM0_1.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0) ∗ tbPt0 c tbM0_1 (tbl m 1)) := by
  unfold Pipeline.ΦT Pipeline.prefHeld
  rw [show (Finset.univ : Finset (Fin 2)) = insert (0 : Fin 2) {(1 : Fin 2)} from by decide,
    bigSep_insert (by decide), bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Window 0's staging buffer holds its block at every point, fetched there or not. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Window 1's staging buffer holds its block at every point, fetched there or not. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Window 2's staging buffer holds its block at every point, fetched there or not. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Window 3's staging buffer holds its block at every point, fetched there or not. -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Window 4's staging buffer holds its block at every point, fetched there or not. -/
theorem before0_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Window 5's staging buffer holds its block at every point, fetched there or not. -/
theorem before0_5_of (hO : Ok m) {c : Dev nD} (dat : Dat τ (Elt F) Unit ℕ (UR sig nD τ) ℕ (cfgM m hO) c) (hA : dat.A 5 = V m c (Pipeline.arrRef spec0 5))
    (hafter : ∀ t, dat.after 5 t = iblk m hO c 5 t) (t : Fin (cfgM m hO).N) (d) : dat.before 5 t d = iblk m hO c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Window 6's staging buffer holds its block at every point, fetched there or not. -/
theorem before0_6_of (hO : Ok m) {c : Dev nD} (dat : Dat τ (Elt F) Unit ℕ (UR sig nD τ) ℕ (cfgM m hO) c) (hA : dat.A 6 = V m c (Pipeline.arrRef spec0 6))
    (hafter : ∀ t, dat.after 6 t = iblk m hO c 6 t) (t : Fin (cfgM m hO).N) (d) : dat.before 6 t d = iblk m hO c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_Kernel`, Defs.lean, at any `F`). -/
theorem frame_of (hO : Ok m) (dats : (p : Fin 1) → (c : Dev nD) → Dat τ (Elt F) Unit ℕ (UR sig nD τ) ℕ ((Pipeline.pin pcfgs fun _ => adm m hO) p) c)
    (hA : ∀ c w, (dats 0 c).A w = V m c (Pipeline.arrRef spec0 w))
    (h : θ_run defs (onTc (τ := τ) (main (F := F))) (s₀ m ρ) (Pipeline.FramePost (Pipeline.pin pcfgs fun _ => adm m hO) dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨((h c).2 main_arg0 (by decide : main_arg0 ∈ Pipeline.restRefs sig spec0)).trans (V_main_arg0 m c),
      ((h c).2 main_arg1 (by decide : main_arg1 ∈ Pipeline.restRefs sig spec0)).trans (V_main_arg1 m c),
      ((h c).1 0).trans (((dats 0 c).arrAt_in 0 rfl _).trans ((hA c 0).trans (V_main_arg2 m c))),
      ((h c).1 1).trans (((dats 0 c).arrAt_in 1 rfl _).trans ((hA c 1).trans (V_main_arg3 m c))),
      ((h c).1 2).trans (((dats 0 c).arrAt_in 2 rfl _).trans ((hA c 2).trans (V_main_arg4 m c))),
      ((h c).1 3).trans (((dats 0 c).arrAt_in 3 rfl _).trans ((hA c 3).trans (V_main_arg5 m c))),
      ((h c).1 4).trans (((dats 0 c).arrAt_in 4 rfl _).trans ((hA c 4).trans (V_main_arg6 m c))),
      ((h c).1 5).trans (((dats 0 c).arrAt_in 5 rfl _).trans ((hA c 5).trans (V_main_arg7 m c))),
      ((h c).1 6).trans (((dats 0 c).arrAt_in 6 rfl _).trans ((hA c 6).trans (V_main_arg8 m c)))⟩) h

/-! ## The words the body reads, and its two branch conditions -/

/-- The number of blocks in use, as the body reads it. -/
abbrev wordN (c : Dev nD) (T1 : TbBuf0 (F := F) c tbM0_1) : Elt F .i32 :=
  View.readAt (Elt F) (tbM0_1).view (Rect.unit (s := S1) ![0] S1.size inb_S1_S1_0).toLoadRect T1 (Shape.Idx.first (numel1_S1.symm ▸ Nat.one_pos))
/-- The expert of the block, as the body reads it. -/
abbrev wordE (c : Dev nD) (i : grid0.Coords) (T0 : TbBuf0 (F := F) c tbM0_0) : Elt F .i32 :=
  View.readAt (Elt F) (tbM0_0).view (Rect.unit (s := S288) (k0_off1 i) S1.size (k0_off1_inb i)).toLoadRect T0 (Shape.Idx.first (numel1_S1.symm ▸ Nat.one_pos))
/-- The expert of the block before it, as the body reads it. -/
abbrev wordP (c : Dev nD) (i : grid0.Coords) (T0 : TbBuf0 (F := F) c tbM0_0) : Elt F .i32 :=
  View.readAt (Elt F) (tbM0_0).view (Rect.unit (s := S288) (k0_off2 i) S1.size (k0_off2_inb i)).toLoadRect T0 (Shape.Idx.first (numel1_S1.symm ▸ Nat.one_pos))
/-- The block is in use and its expert is new: the weights are narrowed again. -/
abbrev condF (c : Dev nD) (i : grid0.Coords) (T0 : TbBuf0 (F := F) c tbM0_0) (T1 : TbBuf0 (F := F) c tbM0_1) : Prop :=
  (Scalar.cmpi .ne (Scalar.extui (Scalar.andi (Scalar.cmpi .slt (BitVec.ofNat 32 (i 0).val) (wordN c T1)) (Scalar.ori (Scalar.cmpi .eq (BitVec.ofNat 32 (i 0).val) 0#32) (Scalar.cmpi .ne (wordE c i T0) (wordP c i T0))))) 0#32) = 1#1
/-- The block is in use: its rows are computed. -/
abbrev condV (c : Dev nD) (i : grid0.Coords) (T1 : TbBuf0 (F := F) c tbM0_1) : Prop := k0_cond2 i (wordN c T1) = 1#1

/-! ## The kernel body on any staging memrefs: a subtype the run finds -/

/-- One staging buffer of output window 7, through which its contents are stated (`View.read_writes_of_cover`: the
    choice does not matter). -/
abbrev VO0_7 : View sig .tc .vmem S256x1024 .f32 := (Memref.whole cc0_stg7_0 : Memref sig .tc .vmem S256x1024 .f32).view
/-- Each window's current staging memref at point `t`, spelled as the pipeline passes it (`bodyAt0`), and its wholeness. -/
abbrev ms0_0 (hO : Ok m) (t : Fin (cfgM m hO).N) : Memref sig .tc .vmem S256x1024 .bf16 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x1024x1024 .f32 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x1x1024 .f32 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S1x1024x1024 .f32 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S1x1x1024 .f32 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S1x1024x1024 .f32 := spec0_5.stage ((cfgM m hO).slots t 5)
abbrev hs0_5 (hO : Ok m) (t : Fin (cfgM m hO).N) : (ms0_5 m hO t).IsWhole := hstage0_5 (((cfgM m hO).slots t 5).cast nbuf0_5)
abbrev ms0_6 (hO : Ok m) (t : Fin (cfgM m hO).N) : Memref sig .tc .vmem S1x1x1024 .f32 := spec0_6.stage ((cfgM m hO).slots t 6)
abbrev hs0_6 (hO : Ok m) (t : Fin (cfgM m hO).N) : (ms0_6 m hO t).IsWhole := hstage0_6 (((cfgM m hO).slots t 6).cast nbuf0_6)
abbrev ms0_7 (hO : Ok m) (t : Fin (cfgM m hO).N) : Memref sig .tc .vmem S256x1024 .f32 := spec0_7.stage ((cfgM m hO).slots t 7)
abbrev hs0_7 (hO : Ok m) (t : Fin (cfgM m hO).N) : (ms0_7 m hO t).IsWhole := hstage0_7 (((cfgM m hO).slots t 7).cast nbuf0_7)
/-- The scratch operands: whole scoped buffers of the kernel's own, passed beside the windows. -/
abbrev scM0_0 : Memref sig .tc .vmem S1024x1024 .bf16 := Memref.whole cc0_scratch0
abbrev scM0_1 : Memref sig .tc .vmem S1024x1024 .bf16 := Memref.whole cc0_scratch1
abbrev scM0_2 : Memref sig .tc .vmem S1024x1024 .bf16 := Memref.whole cc0_scratch2
/-- The scratch `arg11` the kernel carries between points, as a view: what it holds is stated through it. -/
abbrev VS0_0 : View sig .tc .vmem S1024x1024 .bf16 := scM0_0.view
/-- The scratch `arg12` the kernel carries between points, as a view: what it holds is stated through it. -/
abbrev VS0_1 : View sig .tc .vmem S1024x1024 .bf16 := scM0_1.view
/-- The scratch `arg13` the kernel carries between points, as a view: what it holds is stated through it. -/
abbrev VS0_2 : View sig .tc .vmem S1024x1024 .bf16 := scM0_2.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

/-- The staging memref each window is on at point `t`. -/
abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)
abbrev st0_3 (a : (pcfg0 (F := F)).Adm) (t : Fin (cfg0 a).N) := ((cfg0 a).win 3).stage ((cfg0 a).slots t 3)
abbrev st0_4 (a : (pcfg0 (F := F)).Adm) (t : Fin (cfg0 a).N) := ((cfg0 a).win 4).stage ((cfg0 a).slots t 4)
abbrev st0_5 (a : (pcfg0 (F := F)).Adm) (t : Fin (cfg0 a).N) := ((cfg0 a).win 5).stage ((cfg0 a).slots t 5)
abbrev st0_6 (a : (pcfg0 (F := F)).Adm) (t : Fin (cfg0 a).N) := ((cfg0 a).win 6).stage ((cfg0 a).slots t 6)
abbrev st0_7 (a : (pcfg0 (F := F)).Adm) (t : Fin (cfg0 a).N) := ((cfg0 a).win 7).stage ((cfg0 a).slots t 7)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_expert_ffn (grid0.coords t) (Memref.whole main_arg0) (Memref.isWhole_whole _) (Memref.whole main_arg1) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (spec0_7.stage ((cfg0 a).slots t 7)) (hstage0_7 (((cfg0 a).slots t 7).cast nbuf0_7)) (Memref.whole cc0_scratch0) (Memref.isWhole_whole _) (Memref.whole cc0_scratch1) (Memref.isWhole_whole _) (Memref.whole cc0_scratch2) (Memref.isWhole_whole _)

end Cert.KernelIdeal.Gen

end
-- ==== Proof.FfnIdealFacts.lean ====
module

public import proofs.«01_k».proof.Proof.FfnIdealKit
public import Idealize.ShloMosaic.Lib.Pipeline.TableIdle

@[expose] public section

/-! What the two tables say of the grid points, when every block names one of the thirty-two experts and the number of
blocks in use is between one and all of them: every window's block is inside its array, the points of the blocks in use
come first, and the output window is not new at a point past them. -/

set_option maxRecDepth 16384

noncomputable section

namespace Cert.KernelIdeal.Gen

open Idealize.ShloMosaic Idealize.ShloMosaic.TcCoe Idealize.ShloMosaic.Tactic
open Idealize.ShloMosaic.Pipeline (Dat Cfg Window BodyObligation cellOf)

variable {F : FTy → Type} [FloatOps F]
variable (m : (ℓ : Loc nD τ sig) → Buf (Elt F) ℓ)

/-- The two tables as lists of words. -/
abbrev tE : S288.Idx → BitVec 32 := tbl m 0
abbrev tN : S1.Idx → BitVec 32 := tbl m 1

/-- Every block names one of the experts, and between one block and all of them are in use. -/
def Rng : Prop := (∀ k : S288.Idx, (tE m k).toNat < 32) ∧ ∀ k : S1.Idx, 1 ≤ (tN m k).toNat ∧ (tN m k).toNat ≤ 288

/-- Block `k`'s place in the table of experts. -/
def ixE (k : Fin 288) : S288.Idx := fun a => ⟨k.val, by fin_cases a; exact k.isLt⟩
def ixN : S1.Idx := Shape.Idx.first (numel1_S1.symm ▸ Nat.one_pos)
/-- The number of blocks in use. -/
def nv : Nat := (tN m ixN).toNat

theorem idxN (k : S1.Idx) : k = ixN := by
  funext a; apply Fin.ext
  have h1 : S1.size a = 1 := by fin_cases a; rfl
  have h := (k a).isLt
  have h' := (ixN a).isLt
  omega

theorem tN_eq (k : S1.Idx) : (tN m k).toNat = nv m := by rw [idxN k]; rfl

theorem wordN_eq (c : Dev nD) : (wordN c (tbl m 1) : BitVec 32) = tN m ixN := by
  have h : ∃ k, (wordN c (tbl m 1) : BitVec 32) = tN m k := ⟨_, rfl⟩
  obtain ⟨k, hk⟩ := h
  rw [hk, idxN k]

theorem off1_val (i : grid0.Coords) : k0_off1 i 0 = (i 0).val := by
  have h : (i 0).val < 288 := (i 0).isLt
  show (BitVec.ofNat 32 (i 0).val).toNat = _
  rw [BitVec.toNat_ofNat]; omega

theorem off2_val (i : grid0.Coords) : k0_off2 i 0 = (i 0).val - 1 := by
  have h : (i 0).val < 288 := (i 0).isLt
  show (Scalar.maxsi (Scalar.subi (BitVec.ofNat 32 (i 0).val) 1#32) 0#32).toNat = _
  have key : ∀ n : Fin 288, (Scalar.maxsi (Scalar.subi (BitVec.ofNat 32 n.val) 1#32) 0#32).toNat = n.val - 1 := by
    decide +kernel
  exact key ⟨_, h⟩

theorem wordE_eq (c : Dev nD) (i : grid0.Coords) : (wordE c i (tbl m 0) : BitVec 32) = tE m (ixE (i 0)) := by
  show tE m ((tbM0_0).view.emb ((Rect.unit (s := S288) (k0_off1 i) S1.size (k0_off1_inb i)).idx (Shape.Idx.first (numel1_S1.symm ▸ Nat.one_pos)))) = _
  rw [View.emb_whole]
  congr 1; funext a; apply Fin.ext
  obtain rfl : a = (⟨0, Nat.one_pos⟩ : Fin 1) := @Subsingleton.elim (Fin 1) _ _ _
  show k0_off1 i 0 + 1 * 0 = (i 0).val
  rw [off1_val]; rfl

theorem wordP_eq (c : Dev nD) (i : grid0.Coords) : (wordP c i (tbl m 0) : BitVec 32) = tE m (ixE ⟨(i 0).val - 1, by have : (i 0).val < 288 := (i 0).isLt; omega⟩) := by
  show tE m ((tbM0_0).view.emb ((Rect.unit (s := S288) (k0_off2 i) S1.size (k0_off2_inb i)).idx (Shape.Idx.first (numel1_S1.symm ▸ Nat.one_pos)))) = _
  rw [View.emb_whole]
  congr 1; funext a; apply Fin.ext
  obtain rfl : a = (⟨0, Nat.one_pos⟩ : Fin 1) := @Subsingleton.elim (Fin 1) _ _ _
  show k0_off2 i 0 + 1 * 0 = (i 0).val - 1
  rw [off2_val]; rfl

variable {m} in
theorem nv_pos (hR : Rng m) : 1 ≤ nv m := (hR.2 ixN).1
variable {m} in
theorem nv_le (hR : Rng m) : nv m ≤ 288 := (hR.2 ixN).2

/-- The row of a point's block: its own, or the last block in use. -/
theorem row_min (n : Fin 288) (w : BitVec 32) (h1 : 1 ≤ w.toNat) (h2 : w.toNat ≤ 288) :
    (Scalar.minsi (BitVec.ofNat 32 n.val) (Scalar.subi w 1#32)).toNat = min n.val (w.toNat - 1) := by
  have key : ∀ n : Fin 288, ∀ w : Fin 288, (Scalar.minsi (BitVec.ofNat 32 n.val) (BitVec.ofNat 32 w.val)).toNat = min n.val w.val := by
    intro n w
    have hn := n.isLt; have hw := w.isLt
    show (if (BitVec.ofNat 32 n.val).slt (BitVec.ofNat 32 w.val) then BitVec.ofNat 32 n.val else BitVec.ofNat 32 w.val).toNat = _
    have hN : (BitVec.ofNat 32 n.val).toInt = n.val := by rw [BitVec.toInt_ofNat']; exact Int.bmod_eq_of_le (by omega) (by omega)
    have hW : (BitVec.ofNat 32 w.val).toInt = w.val := by rw [BitVec.toInt_ofNat']; exact Int.bmod_eq_of_le (by omega) (by omega)
    rw [BitVec.slt, hN, hW]
    by_cases hh : n.val < w.val
    · have : ((n.val : Int) < w.val) := by omega
      simp [this]; omega
    · have : ¬ ((n.val : Int) < w.val) := by omega
      simp [this]; omega
  have hs : Scalar.subi w 1#32 = BitVec.ofNat 32 (w.toNat - 1) := by
    show w - 1#32 = _
    apply BitVec.eq_of_toNat_eq
    rw [BitVec.toNat_sub, BitVec.toNat_ofNat]
    simp; omega
  rw [hs]
  exact key n ⟨w.toNat - 1, by omega⟩

theorem map0_row (hR : Rng m) (i : grid0.Coords) :
    cc0_transform_0 (F := F) inb_S1_S1_0 numel1_S1 (tbl m) i = ![min (i 0).val (nv m - 1), 0] := by
  have h : ∃ k, cc0_transform_0 (F := F) inb_S1_S1_0 numel1_S1 (tbl m) i = ![(Scalar.minsi (BitVec.ofNat 32 (i 0).val) (Scalar.subi (tN m k) 1#32)).toNat, 0] := ⟨_, rfl⟩
  obtain ⟨k, hk⟩ := h
  rw [hk, row_min (i 0) _ (hR.2 k).1 (hR.2 k).2, tN_eq]

theorem map7_row (hR : Rng m) (i : grid0.Coords) :
    cc0_transform_7 (F := F) inb_S1_S1_0 numel1_S1 (tbl m) i = ![min (i 0).val (nv m - 1), 0] := map0_row m hR i

theorem map1_row (i : grid0.Coords) :
    cc0_transform_1 (F := F) k0_off1_inb numel1_S1 (tbl m) i = ![(tE m (ixE (i 0))).toNat, 0, 0] := by
  have h : cc0_transform_1 (F := F) k0_off1_inb numel1_S1 (tbl m) i = ![(wordE (F := F) 0 i (tbl m 0) : BitVec 32).toNat, 0, 0] := rfl
  rw [h, wordE_eq]

set_option maxHeartbeats 1000000 in
theorem ok_of_rng (hR : Rng m) : Ok m := by
  have hi : ∀ i : grid0.Coords, (i 0).val < 288 := fun i => (i 0).isLt
  have h0 : ∀ i : grid0.Coords, ∀ a, ((![min (i 0).val (nv m - 1), 0] : Fin 2 → Nat) a + 1) * S256x1024.size a ≤ S73728x1024.size a := by
    intro i a; have := hi i; fin_cases a
    · show (min (i 0).val (nv m - 1) + 1) * 256 ≤ 73728; omega
    · show (0 + 1) * 1024 ≤ 1024; omega
  have hb : ∀ i : grid0.Coords, (tE m (ixE (i 0))).toNat < 32 := fun i => hR.1 _
  have h1 : ∀ i : grid0.Coords, ∀ a, ((![(tE m (ixE (i 0))).toNat, 0, 0] : Fin 3 → Nat) a + 1) * S1x1024x1024.size a ≤ S32x1024x1024.size a := by
    intro i a; have := hb i; fin_cases a
    · show ((tE m (ixE (i 0))).toNat + 1) * 1 ≤ 32; omega
    · show (0 + 1) * 1024 ≤ 1024; omega
    · show (0 + 1) * 1024 ≤ 1024; omega
  have h2 : ∀ i : grid0.Coords, ∀ a, ((![(tE m (ixE (i 0))).toNat, 0, 0] : Fin 3 → Nat) a + 1) * S1x1x1024.size a ≤ S32x1x1024.size a := by
    intro i a; have := hb i; fin_cases a
    · show ((tE m (ixE (i 0))).toNat + 1) * 1 ≤ 32; omega
    · show (0 + 1) * 1 ≤ 1; omega
    · show (0 + 1) * 1024 ≤ 1024; omega
  refine ⟨fun i => ⟨fun a => by rw [map0_row m hR i]; exact h0 i a, .inr ?_⟩, fun i => ⟨fun a => by rw [map1_row m i]; exact h1 i a, .inl rfl⟩,
    fun i => ⟨fun a => by rw [show cc0_transform_2 (F := F) k0_off1_inb numel1_S1 (tbl m) i = _ from map1_row m i]; exact h2 i a, .inl rfl⟩,
    fun i => ⟨fun a => by rw [show cc0_transform_3 (F := F) k0_off1_inb numel1_S1 (tbl m) i = _ from map1_row m i]; exact h1 i a, .inl rfl⟩,
    fun i => ⟨fun a => by rw [show cc0_transform_4 (F := F) k0_off1_inb numel1_S1 (tbl m) i = _ from map1_row m i]; exact h2 i a, .inl rfl⟩,
    fun i => ⟨fun a => by rw [show cc0_transform_5 (F := F) k0_off1_inb numel1_S1 (tbl m) i = _ from map1_row m i]; exact h1 i a, .inl rfl⟩,
    fun i => ⟨fun a => by rw [show cc0_transform_6 (F := F) k0_off1_inb numel1_S1 (tbl m) i = _ from map1_row m i]; exact h2 i a, .inl rfl⟩,
    fun i => ⟨fun a => by rw [map7_row m hR i]; exact h0 i a, .inl rfl⟩⟩
  have two : 2 ≤ S73728x1024.rank := by decide
  have hp : EltTy.packing .bf16 ∣ 256 := by decide
  exact Or.inl (Or.inr ⟨two, rfl, Or.inl ⟨Dvd.dvd.mul_left hp _, hp⟩⟩)

/-! ## The points -/

theorem coords_val (t : Fin grid0.N) : (grid0.coords t 0).val = t.val := by
  have hN : t.val < 288 := lt_of_lt_of_eq t.isLt (show grid0.N = 288 from N_0)
  have e0 : (grid0.coords t 0).val = t.val / 1 % 288 := Pipeline.Grid.coords_val t 0 (by decide) rfl
  omega

theorem slt_small (n : Fin 288) (w : BitVec 32) (h2 : w.toNat ≤ 288) : Scalar.cmpi .slt (BitVec.ofNat 32 n.val) w = 1#1 ↔ n.val < w.toNat := by
  have hn := n.isLt
  show BitVec.ofBool ((BitVec.ofNat 32 n.val).slt w) = 1#1 ↔ _
  have hN : (BitVec.ofNat 32 n.val).toInt = n.val := by rw [BitVec.toInt_ofNat']; exact Int.bmod_eq_of_le (by omega) (by omega)
  have hW : w.toInt = w.toNat := by rw [BitVec.toInt_eq_toNat_of_lt]; omega
  rw [BitVec.slt, hN, hW]
  by_cases hh : n.val < w.toNat
  · simp [hh]
  · simp [hh]

/-- The body's test of a block in use. -/
theorem cond2_iff (i : grid0.Coords) (w : BitVec 32) (h2 : w.toNat ≤ 288) : k0_cond2 i w = 1#1 ↔ (i 0).val < w.toNat := by
  have h := slt_small (i 0) w h2
  have e : ∀ b : BitVec 1, (Scalar.cmpi .ne (Scalar.extui b : BitVec 32) 0#32 = 1#1) ↔ b = 1#1 := by decide
  exact (e _).trans h

theorem condV_iff (hR : Rng m) (c : Dev nD) (i : grid0.Coords) : condV c i (tbl m 1) ↔ (i 0).val < nv m := by
  show k0_cond2 i (wordN c (tbl m 1) : BitVec 32) = 1#1 ↔ _
  rw [wordN_eq]
  exact cond2_iff i _ (hR.2 _).2

/-- The weights are narrowed at a block in use that is the first or whose expert is not the one of the block before. -/
theorem condF_iff (hR : Rng m) (c : Dev nD) (i : grid0.Coords) : condF c i (tbl m 0) (tbl m 1) ↔
    (i 0).val < nv m ∧ ((i 0).val = 0 ∨ tE m (ixE (i 0)) ≠ tE m (ixE ⟨(i 0).val - 1, by have : (i 0).val < 288 := (i 0).isLt; omega⟩)) := by
  have e : ∀ b : BitVec 1, (Scalar.cmpi .ne (Scalar.extui b : BitVec 32) 0#32 = 1#1) ↔ b = 1#1 := by decide
  have ha : ∀ b b' : BitVec 1, Scalar.andi b b' = 1#1 ↔ b = 1#1 ∧ b' = 1#1 := by decide
  have ho : ∀ b b' : BitVec 1, Scalar.ori b b' = 1#1 ↔ b = 1#1 ∨ b' = 1#1 := by decide
  have hi : (i 0).val < 288 := (i 0).isLt
  show (Scalar.cmpi .ne (Scalar.extui (Scalar.andi (Scalar.cmpi .slt (BitVec.ofNat 32 (i 0).val) (wordN c (tbl m 1) : BitVec 32)) (Scalar.ori (Scalar.cmpi .eq (BitVec.ofNat 32 (i 0).val) 0#32) (Scalar.cmpi .ne (wordE c i (tbl m 0) : BitVec 32) (wordP c i (tbl m 0) : BitVec 32)))) : BitVec 32) 0#32) = 1#1 ↔ _
  rw [e, ha, ho, wordN_eq, wordE_eq, wordP_eq, slt_small (i 0) _ (hR.2 _).2]
  refine and_congr Iff.rfl (or_congr ?_ ?_)
  · show BitVec.ofBool (BitVec.ofNat 32 (i 0).val == 0#32) = 1#1 ↔ _
    rw [show (BitVec.ofBool (BitVec.ofNat 32 (i 0).val == 0#32) = 1#1 ↔ BitVec.ofNat 32 (i 0).val = 0#32) from by
      by_cases hh : BitVec.ofNat 32 (i 0).val = 0#32
      · rw [hh]; decide
      · rw [show (BitVec.ofNat 32 (i 0).val == 0#32) = false from beq_false_of_ne hh]; exact ⟨fun h => absurd h (by decide), fun h => absurd h hh⟩]
    constructor
    · intro h
      have := congrArg BitVec.toNat h
      rw [BitVec.toNat_ofNat] at this
      simp at this; omega
    · intro h; rw [h]
  · show BitVec.ofBool (_ != _) = 1#1 ↔ _
    by_cases hh : tE m (ixE (i 0)) = tE m (ixE ⟨(i 0).val - 1, by omega⟩)
    · rw [hh, bne_self_eq_false]; exact ⟨fun h => absurd h (by decide), fun h => absurd rfl h⟩
    · rw [show (tE m (ixE (i 0)) != tE m (ixE ⟨(i 0).val - 1, by omega⟩)) = true from bne_iff_ne.mpr hh]; exact ⟨fun _ => hh, fun _ => rfl⟩

theorem condV_of_condF (hR : Rng m) (c : Dev nD) (i : grid0.Coords) (h : condF c i (tbl m 0) (tbl m 1)) : condV c i (tbl m 1) :=
  (condV_iff m hR c i).mpr ((condF_iff m hR c i).mp h).1

/-- The output window is idle exactly at the points of the blocks not in use. -/
theorem idle7_iff (hR : Rng m) (hO : Ok m) (i : grid0.Coords) : (cfgM m hO).idle 7 i = true ↔ ¬ (i 0).val < nv m := by
  have h : ∃ k, (cfgM m hO).idle 7 i = !(k0_cond2 i (tN m k) == 1#1) := ⟨_, rfl⟩
  obtain ⟨k, hk⟩ := h
  rw [hk, ← tN_eq m k, ← cond2_iff i _ (hR.2 k).2]
  simp

/-- The block of the output window at a point. -/
theorem ix7_row (hR : Rng m) (hO : Ok m) (i : grid0.Coords) : ((cfgM m hO).win 7).indexMap i = ![min (i 0).val (nv m - 1), 0] :=
  map7_row m hR i

theorem flush7_eq (hR : Rng m) (hO : Ok m) (t : Fin (cfgM m hO).N) :
    ((cfgM m hO).win 7).flush t = (true && (decide (t.val + 1 = grid0.N) || decide (∃ h : t.val + 1 < grid0.N, ((cfgM m hO).win 7).indexMap (grid0.coords ⟨t.val + 1, h⟩) ≠ ((cfgM m hO).win 7).indexMap (grid0.coords t)))) := rfl

theorem flush7_false (hR : Rng m) (hO : Ok m) (t : Fin (cfgM m hO).N) (h : nv m ≤ t.val + 1) (h' : t.val + 1 < 288) :
    ((cfgM m hO).win 7).flush t = false := by
  have hN : grid0.N = 288 := N_0
  rw [flush7_eq m hR hO]
  have e : ¬ (∃ h : t.val + 1 < grid0.N, ((cfgM m hO).win 7).indexMap (grid0.coords ⟨t.val + 1, h⟩) ≠ ((cfgM m hO).win 7).indexMap (grid0.coords t)) := by
    rintro ⟨h, hne⟩
    apply hne
    have hp := nv_pos hR
    have a1 := ix7_row m hR hO (grid0.coords ⟨t.val + 1, h⟩)
    have a2 := ix7_row m hR hO (grid0.coords t)
    have b1 : (grid0.coords ⟨t.val + 1, h⟩ 0).val = t.val + 1 := coords_val ⟨t.val + 1, h⟩
    have b2 : (grid0.coords t 0).val = t.val := coords_val t
    rw [b1] at a1; rw [b2] at a2
    refine a1.trans (Eq.trans ?_ a2.symm)
    rw [show min (t.val + 1) (nv m - 1) = min t.val (nv m - 1) from by omega]
  rw [decide_eq_false e, decide_eq_false (by omega)]; rfl

theorem flush7_true (hR : Rng m) (hO : Ok m) (t : Fin (cfgM m hO).N) (h : t.val + 1 < nv m ∨ t.val = 287) :
    ((cfgM m hO).win 7).flush t = true := by
  have hN : grid0.N = 288 := N_0
  have hle := nv_le hR
  rw [flush7_eq m hR hO]
  rcases h with h | h
  · have hlt : t.val + 1 < grid0.N := by omega
    have e : (∃ h : t.val + 1 < grid0.N, ((cfgM m hO).win 7).indexMap (grid0.coords ⟨t.val + 1, h⟩) ≠ ((cfgM m hO).win 7).indexMap (grid0.coords t)) := by
      refine ⟨hlt, fun he => ?_⟩
      have a1 := ix7_row m hR hO (grid0.coords ⟨t.val + 1, hlt⟩)
      have a2 := ix7_row m hR hO (grid0.coords t)
      have b1 : (grid0.coords ⟨t.val + 1, hlt⟩ 0).val = t.val + 1 := coords_val ⟨t.val + 1, hlt⟩
      have b2 : (grid0.coords t 0).val = t.val := coords_val t
      rw [b1] at a1; rw [b2] at a2
      have := congrFun (a1.symm.trans (he.trans a2)) 0
      have : min (t.val + 1) (nv m - 1) = min t.val (nv m - 1) := this
      omega
    rw [decide_eq_true e, Bool.or_true]; rfl
  · rw [decide_eq_true (show t.val + 1 = grid0.N by omega), Bool.true_or]; rfl

/-- Past the blocks in use the output window's buffer is not new: it still waits to be written back. -/
theorem fresh7_false (hR : Rng m) (hO : Ok m) : ∀ n : ℕ, nv m ≤ n → n < 288 → (cfgM m hO).fresh 7 n = false := by
  have hN : (cfgM m hO).N = 288 := N_0
  intro n
  induction n with
  | zero => intro h; have := nv_pos hR; omega
  | succ n ih =>
    intro h h'
    have hn : n < (cfgM m hO).N := lt_of_lt_of_eq (show n < 288 by omega) hN.symm
    rw [Pipeline.Cfg.fresh_succ _ _ n hn, flush7_false m hR hO ⟨n, hn⟩ h h', Bool.false_or, Bool.and_eq_false_iff]
    by_cases hv : nv m ≤ n
    · exact .inr (ih hv (by omega))
    · refine .inl ?_
      rw [← Bool.not_eq_true, idle7_iff m hR hO]
      rw [show ((cfgM m hO).grid.coords ⟨n, hn⟩ 0).val = n from coords_val ⟨n, hn⟩]
      omega

end Cert.KernelIdeal.Gen

end
-- ==== Proof.FfnIdealRunA.lean ====
module

public import proofs.«01_k».proof.Proof.FfnIdealKit

@[expose] public section

/-! The body at a block in use whose expert is new: the weights are narrowed, the rows computed. -/

set_option maxRecDepth 16384
set_option Elab.async false

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- What the body leaves, as the pieces it stores, with the run that stores them. -/
noncomputable def kernelRun0_A (c : Dev nD) (i : grid0.Coords) (arg3 : Memref sig .tc .vmem S256x1024 .bf16) (harg3 : arg3.IsWhole) (arg4 : Memref sig .tc .vmem S1x1024x1024 .f32) (harg4 : arg4.IsWhole) (arg5 : Memref sig .tc .vmem S1x1x1024 .f32) (harg5 : arg5.IsWhole) (arg6 : Memref sig .tc .vmem S1x1024x1024 .f32) (harg6 : arg6.IsWhole) (arg7 : Memref sig .tc .vmem S1x1x1024 .f32) (harg7 : arg7.IsWhole) (arg8 : Memref sig .tc .vmem S1x1024x1024 .f32) (harg8 : arg8.IsWhole) (arg9 : Memref sig .tc .vmem S1x1x1024 .f32) (harg9 : arg9.IsWhole) (arg10 : Memref sig .tc .vmem S256x1024 .f32) (harg10 : arg10.IsWhole) (arg11 : Memref sig .tc .vmem S1024x1024 .bf16) (harg11 : arg11.IsWhole) (arg12 : Memref sig .tc .vmem S1024x1024 .bf16) (harg12 : arg12.IsWhole) (arg13 : Memref sig .tc .vmem S1024x1024 .bf16) (harg13 : arg13.IsWhole)
    (x0 : Vec F S256x1024 .bf16) (x1 : Vec F S1x1024x1024 .f32) (x2 : Vec F S1x1x1024 .f32) (x3 : Vec F S1x1024x1024 .f32) (x4 : Vec F S1x1x1024 .f32) (x5 : Vec F S1x1024x1024 .f32) (x6 : Vec F S1x1x1024 .f32) (xt0 : TbBuf0 (F := F) c tbM0_0) (xt1 : TbBuf0 (F := F) c tbM0_1) (hc0 : condF c i xt0 xt1) (hv : condV c i xt1) :
    Σ' (L7 : List (View.Piece (Elt F) S256x1024 .f32)), Σ' (LS0 : List (View.Piece (Elt F) S1024x1024 .bf16)), Σ' (LS1 : List (View.Piece (Elt F) S1024x1024 .bf16)), { LS2 : List (View.Piece (Elt F) S1024x1024 .bf16) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ tbPt0 c tbM0_0 xt0 ∗ tbPt0 c tbM0_1 xt1
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ f, arg10.view.loc (c : Thread nD τ) ↦[arg10.view.set]{fullShare} arg10.view.writes (Elt F) f L7) ∗ (∃ f, arg11.view.loc (c : Thread nD τ) ↦[arg11.view.set]{fullShare} arg11.view.writes (Elt F) f LS0) ∗ (∃ f, arg12.view.loc (c : Thread nD τ) ↦[arg12.view.set]{fullShare} arg12.view.writes (Elt F) f LS1) ∗ (∃ f, arg13.view.loc (c : Thread nD τ) ↦[arg13.view.set]{fullShare} arg13.view.writes (Elt F) f LS2) ∗ tbPt0 c tbM0_0 xt0 ∗ tbPt0 c tbM0_1 xt1) -∗ K ⟨⟩))
          ⊢ wp frame (wpE (defs₀ (F := F)) Variants.none c none) E (cc0_expert_ffn i tbM0_0 htbM0_0 tbM0_1 htbM0_1 arg3 harg3 arg4 harg4 arg5 harg5 arg6 harg6 arg7 harg7 arg8 harg8 arg9 harg9 arg10 harg10 arg11 harg11 arg12 harg12 arg13 harg13) K } := by
  refine ⟨?_, ?_, ?_, ?_, fun E K => ?run⟩
  case run =>
    simp only [cc0_expert_ffn_eq_skeleton]; unfold cc0_expert_ffn_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%ds0, %fs0, -, HS0⟩, ⟨%ds1, %fs1, -, HS1⟩, ⟨%ds2, %fs2, -, HS2⟩, HT0, HT1, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6
    sl_exec (disch := first | (guard_target = ¬(Scalar.cmpi _ _ _ = _); exact hc0) | (guard_target = Scalar.cmpi _ _ _ = _; exact hc0) | (guard_target = k0_cond2 _ _ = _; exact hv) | (guard_target = ¬(k0_cond2 _ _ = _); exact hv))
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]; · iexists _; iexact H7
    isplitl [HS0]; · iexists _; iexact HS0
    isplitl [HS1]; · iexists _; iexact HS1
    isplitl [HS2]; · iexists _; iexact HS2
    isplitl [HT0]; · iexact HT0
    iexact HT1

end Cert.KernelIdeal.Gen

end
-- ==== Proof.FfnIdealRunB.lean ====
module

public import proofs.«01_k».proof.Proof.FfnIdealRunA

@[expose] public section

/-! The body at a block in use with the expert of the block before: the rows are computed from the narrowed weights kept in scratch. -/

set_option maxRecDepth 16384
set_option Elab.async false

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1200000 in
/-- What the body leaves, as the pieces it stores, with the run that stores them. -/
noncomputable def kernelRun0_B (c : Dev nD) (i : grid0.Coords) (arg3 : Memref sig .tc .vmem S256x1024 .bf16) (harg3 : arg3.IsWhole) (arg4 : Memref sig .tc .vmem S1x1024x1024 .f32) (harg4 : arg4.IsWhole) (arg5 : Memref sig .tc .vmem S1x1x1024 .f32) (harg5 : arg5.IsWhole) (arg6 : Memref sig .tc .vmem S1x1024x1024 .f32) (harg6 : arg6.IsWhole) (arg7 : Memref sig .tc .vmem S1x1x1024 .f32) (harg7 : arg7.IsWhole) (arg8 : Memref sig .tc .vmem S1x1024x1024 .f32) (harg8 : arg8.IsWhole) (arg9 : Memref sig .tc .vmem S1x1x1024 .f32) (harg9 : arg9.IsWhole) (arg10 : Memref sig .tc .vmem S256x1024 .f32) (harg10 : arg10.IsWhole) (arg11 : Memref sig .tc .vmem S1024x1024 .bf16) (harg11 : arg11.IsWhole) (arg12 : Memref sig .tc .vmem S1024x1024 .bf16) (harg12 : arg12.IsWhole) (arg13 : Memref sig .tc .vmem S1024x1024 .bf16) (harg13 : arg13.IsWhole)
    (x0 : Vec F S256x1024 .bf16) (x1 : Vec F S1x1024x1024 .f32) (x2 : Vec F S1x1x1024 .f32) (x3 : Vec F S1x1024x1024 .f32) (x4 : Vec F S1x1x1024 .f32) (x5 : Vec F S1x1024x1024 .f32) (x6 : Vec F S1x1x1024 .f32) (xt0 : TbBuf0 (F := F) c tbM0_0) (xt1 : TbBuf0 (F := F) c tbM0_1) (hc0 : ¬condF c i xt0 xt1) (hv : condV c i xt1) (xs0 : Vec F S1024x1024 .bf16) (xs1 : Vec F S1024x1024 .bf16) (xs2 : Vec F S1024x1024 .bf16) :
    Σ' (L7 : List (View.Piece (Elt F) S256x1024 .f32)), Σ' (LS0 : List (View.Piece (Elt F) S1024x1024 .bf16)), Σ' (LS1 : List (View.Piece (Elt F) S1024x1024 .bf16)), { LS2 : List (View.Piece (Elt F) S1024x1024 .bf16) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ d, owns (c : Thread nD τ) arg10 fullShare d) ∗ owns (c : Thread nD τ) arg11 fullShare xs0 ∗ owns (c : Thread nD τ) arg12 fullShare xs1 ∗ owns (c : Thread nD τ) arg13 fullShare xs2 ∗ tbPt0 c tbM0_0 xt0 ∗ tbPt0 c tbM0_1 xt1
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ f, arg10.view.loc (c : Thread nD τ) ↦[arg10.view.set]{fullShare} arg10.view.writes (Elt F) f L7) ∗ owns (c : Thread nD τ) arg11 fullShare xs0 ∗ owns (c : Thread nD τ) arg12 fullShare xs1 ∗ owns (c : Thread nD τ) arg13 fullShare xs2 ∗ tbPt0 c tbM0_0 xt0 ∗ tbPt0 c tbM0_1 xt1) -∗ K ⟨⟩))
          ⊢ wp frame (wpE (defs₀ (F := F)) Variants.none c none) E (cc0_expert_ffn i tbM0_0 htbM0_0 tbM0_1 htbM0_1 arg3 harg3 arg4 harg4 arg5 harg5 arg6 harg6 arg7 harg7 arg8 harg8 arg9 harg9 arg10 harg10 arg11 harg11 arg12 harg12 arg13 harg13) K } := by
  refine ⟨?_, [], [], [], fun E K => ?run⟩
  case run =>
    simp only [cc0_expert_ffn_eq_skeleton]; unfold cc0_expert_ffn_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%fs0, %hfs0, HS0⟩, ⟨%fs1, %hfs1, HS1⟩, ⟨%fs2, %hfs2, HS2⟩, HT0, HT1, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg11.eq_unread hfs0; obtain rfl := harg12.eq_unread hfs1; obtain rfl := harg13.eq_unread hfs2
    sl_exec (disch := first | (guard_target = ¬(Scalar.cmpi _ _ _ = _); exact hc0) | (guard_target = Scalar.cmpi _ _ _ = _; exact hc0) | (guard_target = k0_cond2 _ _ = _; exact hv) | (guard_target = ¬(k0_cond2 _ _ = _); exact hv))
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]; · iexists _; iexact H7
    isplitl [HS0]
    · iexists _; isplitr; · ipureintro; exact harg11.read_unread _
      iexact HS0
    isplitl [HS1]
    · iexists _; isplitr; · ipureintro; exact harg12.read_unread _
      iexact HS1
    isplitl [HS2]
    · iexists _; isplitr; · ipureintro; exact harg13.read_unread _
      iexact HS2
    isplitl [HT0]; · iexact HT0
    iexact HT1

end Cert.KernelIdeal.Gen

end
-- ==== Proof.FfnIdealRunC.lean ====
module

public import proofs.«01_k».proof.Proof.FfnIdealRunB

@[expose] public section

/-! The body at a block not in use: nothing is stored. -/

set_option maxRecDepth 16384
set_option Elab.async false

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1200000 in
/-- The body leaves every buffer as it was. -/
theorem kernelRun0_C (c : Dev nD) (i : grid0.Coords) (arg3 : Memref sig .tc .vmem S256x1024 .bf16) (harg3 : arg3.IsWhole) (arg4 : Memref sig .tc .vmem S1x1024x1024 .f32) (harg4 : arg4.IsWhole) (arg5 : Memref sig .tc .vmem S1x1x1024 .f32) (harg5 : arg5.IsWhole) (arg6 : Memref sig .tc .vmem S1x1024x1024 .f32) (harg6 : arg6.IsWhole) (arg7 : Memref sig .tc .vmem S1x1x1024 .f32) (harg7 : arg7.IsWhole) (arg8 : Memref sig .tc .vmem S1x1024x1024 .f32) (harg8 : arg8.IsWhole) (arg9 : Memref sig .tc .vmem S1x1x1024 .f32) (harg9 : arg9.IsWhole) (arg10 : Memref sig .tc .vmem S256x1024 .f32) (harg10 : arg10.IsWhole) (arg11 : Memref sig .tc .vmem S1024x1024 .bf16) (harg11 : arg11.IsWhole) (arg12 : Memref sig .tc .vmem S1024x1024 .bf16) (harg12 : arg12.IsWhole) (arg13 : Memref sig .tc .vmem S1024x1024 .bf16) (harg13 : arg13.IsWhole)
    (x0 : Vec F S256x1024 .bf16) (x1 : Vec F S1x1024x1024 .f32) (x2 : Vec F S1x1x1024 .f32) (x3 : Vec F S1x1024x1024 .f32) (x4 : Vec F S1x1x1024 .f32) (x5 : Vec F S1x1024x1024 .f32) (x6 : Vec F S1x1x1024 .f32) (xt0 : TbBuf0 (F := F) c tbM0_0) (xt1 : TbBuf0 (F := F) c tbM0_1) (hc0 : ¬condF c i xt0 xt1) (hv : ¬condV c i xt1) (x7 : Vec F S256x1024 .f32) (xs0 : Vec F S1024x1024 .bf16) (xs1 : Vec F S1024x1024 .bf16) (xs2 : Vec F S1024x1024 .bf16) :
    ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare xs0 ∗ owns (c : Thread nD τ) arg12 fullShare xs1 ∗ owns (c : Thread nD τ) arg13 fullShare xs2 ∗ tbPt0 c tbM0_0 xt0 ∗ tbPt0 c tbM0_1 xt1
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare xs0 ∗ owns (c : Thread nD τ) arg12 fullShare xs1 ∗ owns (c : Thread nD τ) arg13 fullShare xs2 ∗ tbPt0 c tbM0_0 xt0 ∗ tbPt0 c tbM0_1 xt1) -∗ K ⟨⟩))
          ⊢ wp frame (wpE (defs₀ (F := F)) Variants.none c none) E (cc0_expert_ffn i tbM0_0 htbM0_0 tbM0_1 htbM0_1 arg3 harg3 arg4 harg4 arg5 harg5 arg6 harg6 arg7 harg7 arg8 harg8 arg9 harg9 arg10 harg10 arg11 harg11 arg12 harg12 arg13 harg13) K := by
  intro E K
  simp only [cc0_expert_ffn_eq_skeleton]; unfold cc0_expert_ffn_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs0, %hfs0, HS0⟩, ⟨%fs1, %hfs1, HS1⟩, ⟨%fs2, %hfs2, HS2⟩, HT0, HT1, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hfs0; obtain rfl := harg12.eq_unread hfs1; obtain rfl := harg13.eq_unread hfs2
  sl_exec (disch := first | (guard_target = ¬(Scalar.cmpi _ _ _ = _); exact hc0) | (guard_target = Scalar.cmpi _ _ _ = _; exact hc0) | (guard_target = k0_cond2 _ _ = _; exact hv) | (guard_target = ¬(k0_cond2 _ _ = _); exact hv))
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; · ipureintro; exact harg8.read_unread _
    iexact H5
  isplitl [H6]
  · iexists _; isplitr; · ipureintro; exact harg9.read_unread _
    iexact H6
  isplitl [H7]
  · iexists _; isplitr; · ipureintro; exact harg10.read_unread _
    iexact H7
  isplitl [HS0]
  · iexists _; isplitr; · ipureintro; exact harg11.read_unread _
    iexact HS0
  isplitl [HS1]
  · iexists _; isplitr; · ipureintro; exact harg12.read_unread _
    iexact HS1
  isplitl [HS2]
  · iexists _; isplitr; · ipureintro; exact harg13.read_unread _
    iexact HS2
  isplitl [HT0]; · iexact HT0
  iexact HT1

end Cert.KernelIdeal.Gen

end
-- ==== Proof.FfnIdealFrame.lean ====
module

public import proofs.«01_k».proof.Proof.FfnIdealFacts
public import proofs.«01_k».proof.Proof.FfnIdealRunA
public import proofs.«01_k».proof.Proof.FfnIdealRunB
public import proofs.«01_k».proof.Proof.FfnIdealRunC
public import Idealize.ShloMosaic.Lib.Claim

@[expose] public section

/-! The expert feed-forward call runs, from any arrays whose tables are in range, and leaves its arguments unchanged. What
the output's buffer and the narrowed weights hold is said point by point: at a block in use with a new expert the weights
are narrowed and the rows computed, at another block in use the rows are computed from the weights held, and past the blocks
in use nothing changes. -/

set_option maxRecDepth 16384
set_option Elab.async false

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves -/

theorem cover0_A_7 (c : Dev nD) (i : grid0.Coords) (arg3 : Memref sig .tc .vmem S256x1024 .bf16) (harg3 : arg3.IsWhole) (arg4 : Memref sig .tc .vmem S1x1024x1024 .f32) (harg4 : arg4.IsWhole) (arg5 : Memref sig .tc .vmem S1x1x1024 .f32) (harg5 : arg5.IsWhole) (arg6 : Memref sig .tc .vmem S1x1024x1024 .f32) (harg6 : arg6.IsWhole) (arg7 : Memref sig .tc .vmem S1x1x1024 .f32) (harg7 : arg7.IsWhole) (arg8 : Memref sig .tc .vmem S1x1024x1024 .f32) (harg8 : arg8.IsWhole) (arg9 : Memref sig .tc .vmem S1x1x1024 .f32) (harg9 : arg9.IsWhole) (arg10 : Memref sig .tc .vmem S256x1024 .f32) (harg10 : arg10.IsWhole) (arg11 : Memref sig .tc .vmem S1024x1024 .bf16) (harg11 : arg11.IsWhole) (arg12 : Memref sig .tc .vmem S1024x1024 .bf16) (harg12 : arg12.IsWhole) (arg13 : Memref sig .tc .vmem S1024x1024 .bf16) (harg13 : arg13.IsWhole)
    (x0 : Vec F S256x1024 .bf16) (x1 : Vec F S1x1024x1024 .f32) (x2 : Vec F S1x1x1024 .f32) (x3 : Vec F S1x1024x1024 .f32) (x4 : Vec F S1x1x1024 .f32) (x5 : Vec F S1x1024x1024 .f32) (x6 : Vec F S1x1x1024 .f32) (xt0 : TbBuf0 (F := F) c tbM0_0) (xt1 : TbBuf0 (F := F) c tbM0_1) (hc0 : condF c i xt0 xt1) (hv : condV c i xt1) (y : S256x1024.Idx) :
    ∃ pc ∈ (kernelRun0_A c i arg3 harg3 arg4 harg4 arg5 harg5 arg6 harg6 arg7 harg7 arg8 harg8 arg9 harg9 arg10 harg10 arg11 harg11 arg12 harg12 arg13 harg13 x0 x1 x2 x3 x4 x5 x6 xt0 xt1 hc0 hv).1, y ∈ pc.1.set :=
  View.cover_of_tiledL (kernelRun0_A c i arg3 harg3 arg4 harg4 arg5 harg5 arg6 harg6 arg7 harg7 arg8 harg8 arg9 harg9 arg10 harg10 arg11 harg11 arg12 harg12 arg13 harg13 x0 x1 x2 x3 x4 x5 x6 xt0 xt1 hc0 hv).1 S256x1024.size (by sl_kernel_rfl) y

/-- The rows at a block in use with a new expert. -/
def out0_A_7 (c : Dev nD) (i : grid0.Coords) (arg3 : Memref sig .tc .vmem S256x1024 .bf16) (harg3 : arg3.IsWhole) (arg4 : Memref sig .tc .vmem S1x1024x1024 .f32) (harg4 : arg4.IsWhole) (arg5 : Memref sig .tc .vmem S1x1x1024 .f32) (harg5 : arg5.IsWhole) (arg6 : Memref sig .tc .vmem S1x1024x1024 .f32) (harg6 : arg6.IsWhole) (arg7 : Memref sig .tc .vmem S1x1x1024 .f32) (harg7 : arg7.IsWhole) (arg8 : Memref sig .tc .vmem S1x1024x1024 .f32) (harg8 : arg8.IsWhole) (arg9 : Memref sig .tc .vmem S1x1x1024 .f32) (harg9 : arg9.IsWhole) (arg10 : Memref sig .tc .vmem S256x1024 .f32) (harg10 : arg10.IsWhole) (arg11 : Memref sig .tc .vmem S1024x1024 .bf16) (harg11 : arg11.IsWhole) (arg12 : Memref sig .tc .vmem S1024x1024 .bf16) (harg12 : arg12.IsWhole) (arg13 : Memref sig .tc .vmem S1024x1024 .bf16) (harg13 : arg13.IsWhole)
    (x0 : Vec F S256x1024 .bf16) (x1 : Vec F S1x1024x1024 .f32) (x2 : Vec F S1x1x1024 .f32) (x3 : Vec F S1x1024x1024 .f32) (x4 : Vec F S1x1x1024 .f32) (x5 : Vec F S1x1024x1024 .f32) (x6 : Vec F S1x1x1024 .f32) (xt0 : TbBuf0 (F := F) c tbM0_0) (xt1 : TbBuf0 (F := F) c tbM0_1) (hc0 : condF c i xt0 xt1) (hv : condV c i xt1) : Vec F S256x1024 .f32 :=
  VO0_7.read (Elt F) (VO0_7.writes (Elt F) VO0_7.junk (kernelRun0_A c i arg3 harg3 arg4 harg4 arg5 harg5 arg6 harg6 arg7 harg7 arg8 harg8 arg9 harg9 arg10 harg10 arg11 harg11 arg12 harg12 arg13 harg13 x0 x1 x2 x3 x4 x5 x6 xt0 xt1 hc0 hv).1)

theorem scover0_A_0 (c : Dev nD) (i : grid0.Coords) (arg3 : Memref sig .tc .vmem S256x1024 .bf16) (harg3 : arg3.IsWhole) (arg4 : Memref sig .tc .vmem S1x1024x1024 .f32) (harg4 : arg4.IsWhole) (arg5 : Memref sig .tc .vmem S1x1x1024 .f32) (harg5 : arg5.IsWhole) (arg6 : Memref sig .tc .vmem S1x1024x1024 .f32) (harg6 : arg6.IsWhole) (arg7 : Memref sig .tc .vmem S1x1x1024 .f32) (harg7 : arg7.IsWhole) (arg8 : Memref sig .tc .vmem S1x1024x1024 .f32) (harg8 : arg8.IsWhole) (arg9 : Memref sig .tc .vmem S1x1x1024 .f32) (harg9 : arg9.IsWhole) (arg10 : Memref sig .tc .vmem S256x1024 .f32) (harg10 : arg10.IsWhole) (arg11 : Memref sig .tc .vmem S1024x1024 .bf16) (harg11 : arg11.IsWhole) (arg12 : Memref sig .tc .vmem S1024x1024 .bf16) (harg12 : arg12.IsWhole) (arg13 : Memref sig .tc .vmem S1024x1024 .bf16) (harg13 : arg13.IsWhole)
    (x0 : Vec F S256x1024 .bf16) (x1 : Vec F S1x1024x1024 .f32) (x2 : Vec F S1x1x1024 .f32) (x3 : Vec F S1x1024x1024 .f32) (x4 : Vec F S1x1x1024 .f32) (x5 : Vec F S1x1024x1024 .f32) (x6 : Vec F S1x1x1024 .f32) (xt0 : TbBuf0 (F := F) c tbM0_0) (xt1 : TbBuf0 (F := F) c tbM0_1) (hc0 : condF c i xt0 xt1) (hv : condV c i xt1) (y : S1024x1024.Idx) :
    ∃ pc ∈ (kernelRun0_A c i arg3 harg3 arg4 harg4 arg5 harg5 arg6 harg6 arg7 harg7 arg8 harg8 arg9 harg9 arg10 harg10 arg11 harg11 arg12 harg12 arg13 harg13 x0 x1 x2 x3 x4 x5 x6 xt0 xt1 hc0 hv).2.1, y ∈ pc.1.set :=
  View.cover_of_tiledL (kernelRun0_A c i arg3 harg3 arg4 harg4 arg5 harg5 arg6 harg6 arg7 harg7 arg8 harg8 arg9 harg9 arg10 harg10 arg11 harg11 arg12 harg12 arg13 harg13 x0 x1 x2 x3 x4 x5 x6 xt0 xt1 hc0 hv).2.1 S1024x1024.size (by sl_kernel_rfl) y

/-- A narrowed weight at a block in use with a new expert. -/
def sout0_A_0 (c : Dev nD) (i : grid0.Coords) (arg3 : Memref sig .tc .vmem S256x1024 .bf16) (harg3 : arg3.IsWhole) (arg4 : Memref sig .tc .vmem S1x1024x1024 .f32) (harg4 : arg4.IsWhole) (arg5 : Memref sig .tc .vmem S1x1x1024 .f32) (harg5 : arg5.IsWhole) (arg6 : Memref sig .tc .vmem S1x1024x1024 .f32) (harg6 : arg6.IsWhole) (arg7 : Memref sig .tc .vmem S1x1x1024 .f32) (harg7 : arg7.IsWhole) (arg8 : Memref sig .tc .vmem S1x1024x1024 .f32) (harg8 : arg8.IsWhole) (arg9 : Memref sig .tc .vmem S1x1x1024 .f32) (harg9 : arg9.IsWhole) (arg10 : Memref sig .tc .vmem S256x1024 .f32) (harg10 : arg10.IsWhole) (arg11 : Memref sig .tc .vmem S1024x1024 .bf16) (harg11 : arg11.IsWhole) (arg12 : Memref sig .tc .vmem S1024x1024 .bf16) (harg12 : arg12.IsWhole) (arg13 : Memref sig .tc .vmem S1024x1024 .bf16) (harg13 : arg13.IsWhole)
    (x0 : Vec F S256x1024 .bf16) (x1 : Vec F S1x1024x1024 .f32) (x2 : Vec F S1x1x1024 .f32) (x3 : Vec F S1x1024x1024 .f32) (x4 : Vec F S1x1x1024 .f32) (x5 : Vec F S1x1024x1024 .f32) (x6 : Vec F S1x1x1024 .f32) (xt0 : TbBuf0 (F := F) c tbM0_0) (xt1 : TbBuf0 (F := F) c tbM0_1) (hc0 : condF c i xt0 xt1) (hv : condV c i xt1) : Vec F S1024x1024 .bf16 :=
  VS0_0.read (Elt F) (VS0_0.writes (Elt F) VS0_0.junk (kernelRun0_A c i arg3 harg3 arg4 harg4 arg5 harg5 arg6 harg6 arg7 harg7 arg8 harg8 arg9 harg9 arg10 harg10 arg11 harg11 arg12 harg12 arg13 harg13 x0 x1 x2 x3 x4 x5 x6 xt0 xt1 hc0 hv).2.1)

theorem scover0_A_1 (c : Dev nD) (i : grid0.Coords) (arg3 : Memref sig .tc .vmem S256x1024 .bf16) (harg3 : arg3.IsWhole) (arg4 : Memref sig .tc .vmem S1x1024x1024 .f32) (harg4 : arg4.IsWhole) (arg5 : Memref sig .tc .vmem S1x1x1024 .f32) (harg5 : arg5.IsWhole) (arg6 : Memref sig .tc .vmem S1x1024x1024 .f32) (harg6 : arg6.IsWhole) (arg7 : Memref sig .tc .vmem S1x1x1024 .f32) (harg7 : arg7.IsWhole) (arg8 : Memref sig .tc .vmem S1x1024x1024 .f32) (harg8 : arg8.IsWhole) (arg9 : Memref sig .tc .vmem S1x1x1024 .f32) (harg9 : arg9.IsWhole) (arg10 : Memref sig .tc .vmem S256x1024 .f32) (harg10 : arg10.IsWhole) (arg11 : Memref sig .tc .vmem S1024x1024 .bf16) (harg11 : arg11.IsWhole) (arg12 : Memref sig .tc .vmem S1024x1024 .bf16) (harg12 : arg12.IsWhole) (arg13 : Memref sig .tc .vmem S1024x1024 .bf16) (harg13 : arg13.IsWhole)
    (x0 : Vec F S256x1024 .bf16) (x1 : Vec F S1x1024x1024 .f32) (x2 : Vec F S1x1x1024 .f32) (x3 : Vec F S1x1024x1024 .f32) (x4 : Vec F S1x1x1024 .f32) (x5 : Vec F S1x1024x1024 .f32) (x6 : Vec F S1x1x1024 .f32) (xt0 : TbBuf0 (F := F) c tbM0_0) (xt1 : TbBuf0 (F := F) c tbM0_1) (hc0 : condF c i xt0 xt1) (hv : condV c i xt1) (y : S1024x1024.Idx) :
    ∃ pc ∈ (kernelRun0_A c i arg3 harg3 arg4 harg4 arg5 harg5 arg6 harg6 arg7 harg7 arg8 harg8 arg9 harg9 arg10 harg10 arg11 harg11 arg12 harg12 arg13 harg13 x0 x1 x2 x3 x4 x5 x6 xt0 xt1 hc0 hv).2.2.1, y ∈ pc.1.set :=
  View.cover_of_tiledL (kernelRun0_A c i arg3 harg3 arg4 harg4 arg5 harg5 arg6 harg6 arg7 harg7 arg8 harg8 arg9 harg9 arg10 harg10 arg11 harg11 arg12 harg12 arg13 harg13 x0 x1 x2 x3 x4 x5 x6 xt0 xt1 hc0 hv).2.2.1 S1024x1024.size (by sl_kernel_rfl) y

/-- A narrowed weight at a block in use with a new expert. -/
def sout0_A_1 (c : Dev nD) (i : grid0.Coords) (arg3 : Memref sig .tc .vmem S256x1024 .bf16) (harg3 : arg3.IsWhole) (arg4 : Memref sig .tc .vmem S1x1024x1024 .f32) (harg4 : arg4.IsWhole) (arg5 : Memref sig .tc .vmem S1x1x1024 .f32) (harg5 : arg5.IsWhole) (arg6 : Memref sig .tc .vmem S1x1024x1024 .f32) (harg6 : arg6.IsWhole) (arg7 : Memref sig .tc .vmem S1x1x1024 .f32) (harg7 : arg7.IsWhole) (arg8 : Memref sig .tc .vmem S1x1024x1024 .f32) (harg8 : arg8.IsWhole) (arg9 : Memref sig .tc .vmem S1x1x1024 .f32) (harg9 : arg9.IsWhole) (arg10 : Memref sig .tc .vmem S256x1024 .f32) (harg10 : arg10.IsWhole) (arg11 : Memref sig .tc .vmem S1024x1024 .bf16) (harg11 : arg11.IsWhole) (arg12 : Memref sig .tc .vmem S1024x1024 .bf16) (harg12 : arg12.IsWhole) (arg13 : Memref sig .tc .vmem S1024x1024 .bf16) (harg13 : arg13.IsWhole)
    (x0 : Vec F S256x1024 .bf16) (x1 : Vec F S1x1024x1024 .f32) (x2 : Vec F S1x1x1024 .f32) (x3 : Vec F S1x1024x1024 .f32) (x4 : Vec F S1x1x1024 .f32) (x5 : Vec F S1x1024x1024 .f32) (x6 : Vec F S1x1x1024 .f32) (xt0 : TbBuf0 (F := F) c tbM0_0) (xt1 : TbBuf0 (F := F) c tbM0_1) (hc0 : condF c i xt0 xt1) (hv : condV c i xt1) : Vec F S1024x1024 .bf16 :=
  VS0_1.read (Elt F) (VS0_1.writes (Elt F) VS0_1.junk (kernelRun0_A c i arg3 harg3 arg4 harg4 arg5 harg5 arg6 harg6 arg7 harg7 arg8 harg8 arg9 harg9 arg10 harg10 arg11 harg11 arg12 harg12 arg13 harg13 x0 x1 x2 x3 x4 x5 x6 xt0 xt1 hc0 hv).2.2.1)

theorem scover0_A_2 (c : Dev nD) (i : grid0.Coords) (arg3 : Memref sig .tc .vmem S256x1024 .bf16) (harg3 : arg3.IsWhole) (arg4 : Memref sig .tc .vmem S1x1024x1024 .f32) (harg4 : arg4.IsWhole) (arg5 : Memref sig .tc .vmem S1x1x1024 .f32) (harg5 : arg5.IsWhole) (arg6 : Memref sig .tc .vmem S1x1024x1024 .f32) (harg6 : arg6.IsWhole) (arg7 : Memref sig .tc .vmem S1x1x1024 .f32) (harg7 : arg7.IsWhole) (arg8 : Memref sig .tc .vmem S1x1024x1024 .f32) (harg8 : arg8.IsWhole) (arg9 : Memref sig .tc .vmem S1x1x1024 .f32) (harg9 : arg9.IsWhole) (arg10 : Memref sig .tc .vmem S256x1024 .f32) (harg10 : arg10.IsWhole) (arg11 : Memref sig .tc .vmem S1024x1024 .bf16) (harg11 : arg11.IsWhole) (arg12 : Memref sig .tc .vmem S1024x1024 .bf16) (harg12 : arg12.IsWhole) (arg13 : Memref sig .tc .vmem S1024x1024 .bf16) (harg13 : arg13.IsWhole)
    (x0 : Vec F S256x1024 .bf16) (x1 : Vec F S1x1024x1024 .f32) (x2 : Vec F S1x1x1024 .f32) (x3 : Vec F S1x1024x1024 .f32) (x4 : Vec F S1x1x1024 .f32) (x5 : Vec F S1x1024x1024 .f32) (x6 : Vec F S1x1x1024 .f32) (xt0 : TbBuf0 (F := F) c tbM0_0) (xt1 : TbBuf0 (F := F) c tbM0_1) (hc0 : condF c i xt0 xt1) (hv : condV c i xt1) (y : S1024x1024.Idx) :
    ∃ pc ∈ (kernelRun0_A c i arg3 harg3 arg4 harg4 arg5 harg5 arg6 harg6 arg7 harg7 arg8 harg8 arg9 harg9 arg10 harg10 arg11 harg11 arg12 harg12 arg13 harg13 x0 x1 x2 x3 x4 x5 x6 xt0 xt1 hc0 hv).2.2.2.1, y ∈ pc.1.set :=
  View.cover_of_tiledL (kernelRun0_A c i arg3 harg3 arg4 harg4 arg5 harg5 arg6 harg6 arg7 harg7 arg8 harg8 arg9 harg9 arg10 harg10 arg11 harg11 arg12 harg12 arg13 harg13 x0 x1 x2 x3 x4 x5 x6 xt0 xt1 hc0 hv).2.2.2.1 S1024x1024.size (by sl_kernel_rfl) y

/-- A narrowed weight at a block in use with a new expert. -/
def sout0_A_2 (c : Dev nD) (i : grid0.Coords) (arg3 : Memref sig .tc .vmem S256x1024 .bf16) (harg3 : arg3.IsWhole) (arg4 : Memref sig .tc .vmem S1x1024x1024 .f32) (harg4 : arg4.IsWhole) (arg5 : Memref sig .tc .vmem S1x1x1024 .f32) (harg5 : arg5.IsWhole) (arg6 : Memref sig .tc .vmem S1x1024x1024 .f32) (harg6 : arg6.IsWhole) (arg7 : Memref sig .tc .vmem S1x1x1024 .f32) (harg7 : arg7.IsWhole) (arg8 : Memref sig .tc .vmem S1x1024x1024 .f32) (harg8 : arg8.IsWhole) (arg9 : Memref sig .tc .vmem S1x1x1024 .f32) (harg9 : arg9.IsWhole) (arg10 : Memref sig .tc .vmem S256x1024 .f32) (harg10 : arg10.IsWhole) (arg11 : Memref sig .tc .vmem S1024x1024 .bf16) (harg11 : arg11.IsWhole) (arg12 : Memref sig .tc .vmem S1024x1024 .bf16) (harg12 : arg12.IsWhole) (arg13 : Memref sig .tc .vmem S1024x1024 .bf16) (harg13 : arg13.IsWhole)
    (x0 : Vec F S256x1024 .bf16) (x1 : Vec F S1x1024x1024 .f32) (x2 : Vec F S1x1x1024 .f32) (x3 : Vec F S1x1024x1024 .f32) (x4 : Vec F S1x1x1024 .f32) (x5 : Vec F S1x1024x1024 .f32) (x6 : Vec F S1x1x1024 .f32) (xt0 : TbBuf0 (F := F) c tbM0_0) (xt1 : TbBuf0 (F := F) c tbM0_1) (hc0 : condF c i xt0 xt1) (hv : condV c i xt1) : Vec F S1024x1024 .bf16 :=
  VS0_2.read (Elt F) (VS0_2.writes (Elt F) VS0_2.junk (kernelRun0_A c i arg3 harg3 arg4 harg4 arg5 harg5 arg6 harg6 arg7 harg7 arg8 harg8 arg9 harg9 arg10 harg10 arg11 harg11 arg12 harg12 arg13 harg13 x0 x1 x2 x3 x4 x5 x6 xt0 xt1 hc0 hv).2.2.2.1)

theorem cover0_B_7 (c : Dev nD) (i : grid0.Coords) (arg3 : Memref sig .tc .vmem S256x1024 .bf16) (harg3 : arg3.IsWhole) (arg4 : Memref sig .tc .vmem S1x1024x1024 .f32) (harg4 : arg4.IsWhole) (arg5 : Memref sig .tc .vmem S1x1x1024 .f32) (harg5 : arg5.IsWhole) (arg6 : Memref sig .tc .vmem S1x1024x1024 .f32) (harg6 : arg6.IsWhole) (arg7 : Memref sig .tc .vmem S1x1x1024 .f32) (harg7 : arg7.IsWhole) (arg8 : Memref sig .tc .vmem S1x1024x1024 .f32) (harg8 : arg8.IsWhole) (arg9 : Memref sig .tc .vmem S1x1x1024 .f32) (harg9 : arg9.IsWhole) (arg10 : Memref sig .tc .vmem S256x1024 .f32) (harg10 : arg10.IsWhole) (arg11 : Memref sig .tc .vmem S1024x1024 .bf16) (harg11 : arg11.IsWhole) (arg12 : Memref sig .tc .vmem S1024x1024 .bf16) (harg12 : arg12.IsWhole) (arg13 : Memref sig .tc .vmem S1024x1024 .bf16) (harg13 : arg13.IsWhole)
    (x0 : Vec F S256x1024 .bf16) (x1 : Vec F S1x1024x1024 .f32) (x2 : Vec F S1x1x1024 .f32) (x3 : Vec F S1x1024x1024 .f32) (x4 : Vec F S1x1x1024 .f32) (x5 : Vec F S1x1024x1024 .f32) (x6 : Vec F S1x1x1024 .f32) (xt0 : TbBuf0 (F := F) c tbM0_0) (xt1 : TbBuf0 (F := F) c tbM0_1) (hc0 : ¬condF c i xt0 xt1) (hv : condV c i xt1) (xs0 xs1 xs2 : Vec F S1024x1024 .bf16) (y : S256x1024.Idx) :
    ∃ pc ∈ (kernelRun0_B c i arg3 harg3 arg4 harg4 arg5 harg5 arg6 harg6 arg7 harg7 arg8 harg8 arg9 harg9 arg10 harg10 arg11 harg11 arg12 harg12 arg13 harg13 x0 x1 x2 x3 x4 x5 x6 xt0 xt1 hc0 hv xs0 xs1 xs2).1, y ∈ pc.1.set :=
  View.cover_of_tiledL (kernelRun0_B c i arg3 harg3 arg4 harg4 arg5 harg5 arg6 harg6 arg7 harg7 arg8 harg8 arg9 harg9 arg10 harg10 arg11 harg11 arg12 harg12 arg13 harg13 x0 x1 x2 x3 x4 x5 x6 xt0 xt1 hc0 hv xs0 xs1 xs2).1 S256x1024.size (by sl_kernel_rfl) y

/-- The rows at a block in use whose expert is the one before. -/
def out0_B_7 (c : Dev nD) (i : grid0.Coords) (arg3 : Memref sig .tc .vmem S256x1024 .bf16) (harg3 : arg3.IsWhole) (arg4 : Memref sig .tc .vmem S1x1024x1024 .f32) (harg4 : arg4.IsWhole) (arg5 : Memref sig .tc .vmem S1x1x1024 .f32) (harg5 : arg5.IsWhole) (arg6 : Memref sig .tc .vmem S1x1024x1024 .f32) (harg6 : arg6.IsWhole) (arg7 : Memref sig .tc .vmem S1x1x1024 .f32) (harg7 : arg7.IsWhole) (arg8 : Memref sig .tc .vmem S1x1024x1024 .f32) (harg8 : arg8.IsWhole) (arg9 : Memref sig .tc .vmem S1x1x1024 .f32) (harg9 : arg9.IsWhole) (arg10 : Memref sig .tc .vmem S256x1024 .f32) (harg10 : arg10.IsWhole) (arg11 : Memref sig .tc .vmem S1024x1024 .bf16) (harg11 : arg11.IsWhole) (arg12 : Memref sig .tc .vmem S1024x1024 .bf16) (harg12 : arg12.IsWhole) (arg13 : Memref sig .tc .vmem S1024x1024 .bf16) (harg13 : arg13.IsWhole)
    (x0 : Vec F S256x1024 .bf16) (x1 : Vec F S1x1024x1024 .f32) (x2 : Vec F S1x1x1024 .f32) (x3 : Vec F S1x1024x1024 .f32) (x4 : Vec F S1x1x1024 .f32) (x5 : Vec F S1x1024x1024 .f32) (x6 : Vec F S1x1x1024 .f32) (xt0 : TbBuf0 (F := F) c tbM0_0) (xt1 : TbBuf0 (F := F) c tbM0_1) (hc0 : ¬condF c i xt0 xt1) (hv : condV c i xt1) (xs0 xs1 xs2 : Vec F S1024x1024 .bf16) : Vec F S256x1024 .f32 :=
  VO0_7.read (Elt F) (VO0_7.writes (Elt F) VO0_7.junk (kernelRun0_B c i arg3 harg3 arg4 harg4 arg5 harg5 arg6 harg6 arg7 harg7 arg8 harg8 arg9 harg9 arg10 harg10 arg11 harg11 arg12 harg12 arg13 harg13 x0 x1 x2 x3 x4 x5 x6 xt0 xt1 hc0 hv xs0 xs1 xs2).1)

/-! ## Point by point -/

abbrev oR (hR : Rng m) : Ok m := ok_of_rng m hR

/-- What a block in use with a new expert leaves: the rows, and the three narrowed weights. -/
def stepA (hR : Rng m) (c : Dev nD) (t : Fin (cfgM m (oR m hR)).N) (hc : condF c (grid0.coords t) (tbl m 0) (tbl m 1)) : Vec F S256x1024 .f32 × Vec F S1024x1024 .bf16 × Vec F S1024x1024 .bf16 × Vec F S1024x1024 .bf16 :=
  (out0_A_7 c (grid0.coords t) (ms0_0 m (oR m hR) t) (hs0_0 m (oR m hR) t) (ms0_1 m (oR m hR) t) (hs0_1 m (oR m hR) t) (ms0_2 m (oR m hR) t) (hs0_2 m (oR m hR) t) (ms0_3 m (oR m hR) t) (hs0_3 m (oR m hR) t) (ms0_4 m (oR m hR) t) (hs0_4 m (oR m hR) t) (ms0_5 m (oR m hR) t) (hs0_5 m (oR m hR) t) (ms0_6 m (oR m hR) t) (hs0_6 m (oR m hR) t) (ms0_7 m (oR m hR) t) (hs0_7 m (oR m hR) t) scM0_0 (Memref.isWhole_whole _) scM0_1 (Memref.isWhole_whole _) scM0_2 (Memref.isWhole_whole _) (iblk m (oR m hR) c 0 t) (iblk m (oR m hR) c 1 t) (iblk m (oR m hR) c 2 t) (iblk m (oR m hR) c 3 t) (iblk m (oR m hR) c 4 t) (iblk m (oR m hR) c 5 t) (iblk m (oR m hR) c 6 t) (tbl m 0) (tbl m 1) hc (condV_of_condF m hR c _ hc),
   sout0_A_0 c (grid0.coords t) (ms0_0 m (oR m hR) t) (hs0_0 m (oR m hR) t) (ms0_1 m (oR m hR) t) (hs0_1 m (oR m hR) t) (ms0_2 m (oR m hR) t) (hs0_2 m (oR m hR) t) (ms0_3 m (oR m hR) t) (hs0_3 m (oR m hR) t) (ms0_4 m (oR m hR) t) (hs0_4 m (oR m hR) t) (ms0_5 m (oR m hR) t) (hs0_5 m (oR m hR) t) (ms0_6 m (oR m hR) t) (hs0_6 m (oR m hR) t) (ms0_7 m (oR m hR) t) (hs0_7 m (oR m hR) t) scM0_0 (Memref.isWhole_whole _) scM0_1 (Memref.isWhole_whole _) scM0_2 (Memref.isWhole_whole _) (iblk m (oR m hR) c 0 t) (iblk m (oR m hR) c 1 t) (iblk m (oR m hR) c 2 t) (iblk m (oR m hR) c 3 t) (iblk m (oR m hR) c 4 t) (iblk m (oR m hR) c 5 t) (iblk m (oR m hR) c 6 t) (tbl m 0) (tbl m 1) hc (condV_of_condF m hR c _ hc),
   sout0_A_1 c (grid0.coords t) (ms0_0 m (oR m hR) t) (hs0_0 m (oR m hR) t) (ms0_1 m (oR m hR) t) (hs0_1 m (oR m hR) t) (ms0_2 m (oR m hR) t) (hs0_2 m (oR m hR) t) (ms0_3 m (oR m hR) t) (hs0_3 m (oR m hR) t) (ms0_4 m (oR m hR) t) (hs0_4 m (oR m hR) t) (ms0_5 m (oR m hR) t) (hs0_5 m (oR m hR) t) (ms0_6 m (oR m hR) t) (hs0_6 m (oR m hR) t) (ms0_7 m (oR m hR) t) (hs0_7 m (oR m hR) t) scM0_0 (Memref.isWhole_whole _) scM0_1 (Memref.isWhole_whole _) scM0_2 (Memref.isWhole_whole _) (iblk m (oR m hR) c 0 t) (iblk m (oR m hR) c 1 t) (iblk m (oR m hR) c 2 t) (iblk m (oR m hR) c 3 t) (iblk m (oR m hR) c 4 t) (iblk m (oR m hR) c 5 t) (iblk m (oR m hR) c 6 t) (tbl m 0) (tbl m 1) hc (condV_of_condF m hR c _ hc),
   sout0_A_2 c (grid0.coords t) (ms0_0 m (oR m hR) t) (hs0_0 m (oR m hR) t) (ms0_1 m (oR m hR) t) (hs0_1 m (oR m hR) t) (ms0_2 m (oR m hR) t) (hs0_2 m (oR m hR) t) (ms0_3 m (oR m hR) t) (hs0_3 m (oR m hR) t) (ms0_4 m (oR m hR) t) (hs0_4 m (oR m hR) t) (ms0_5 m (oR m hR) t) (hs0_5 m (oR m hR) t) (ms0_6 m (oR m hR) t) (hs0_6 m (oR m hR) t) (ms0_7 m (oR m hR) t) (hs0_7 m (oR m hR) t) scM0_0 (Memref.isWhole_whole _) scM0_1 (Memref.isWhole_whole _) scM0_2 (Memref.isWhole_whole _) (iblk m (oR m hR) c 0 t) (iblk m (oR m hR) c 1 t) (iblk m (oR m hR) c 2 t) (iblk m (oR m hR) c 3 t) (iblk m (oR m hR) c 4 t) (iblk m (oR m hR) c 5 t) (iblk m (oR m hR) c 6 t) (tbl m 0) (tbl m 1) hc (condV_of_condF m hR c _ hc))

/-- What another block in use leaves: the rows, and the weights as they were. -/
def stepB (hR : Rng m) (c : Dev nD) (t : Fin (cfgM m (oR m hR)).N) (hc : ¬condF c (grid0.coords t) (tbl m 0) (tbl m 1)) (hv : condV c (grid0.coords t) (tbl m 1))
    (p : Vec F S256x1024 .f32 × Vec F S1024x1024 .bf16 × Vec F S1024x1024 .bf16 × Vec F S1024x1024 .bf16) : Vec F S256x1024 .f32 × Vec F S1024x1024 .bf16 × Vec F S1024x1024 .bf16 × Vec F S1024x1024 .bf16 :=
  (out0_B_7 c (grid0.coords t) (ms0_0 m (oR m hR) t) (hs0_0 m (oR m hR) t) (ms0_1 m (oR m hR) t) (hs0_1 m (oR m hR) t) (ms0_2 m (oR m hR) t) (hs0_2 m (oR m hR) t) (ms0_3 m (oR m hR) t) (hs0_3 m (oR m hR) t) (ms0_4 m (oR m hR) t) (hs0_4 m (oR m hR) t) (ms0_5 m (oR m hR) t) (hs0_5 m (oR m hR) t) (ms0_6 m (oR m hR) t) (hs0_6 m (oR m hR) t) (ms0_7 m (oR m hR) t) (hs0_7 m (oR m hR) t) scM0_0 (Memref.isWhole_whole _) scM0_1 (Memref.isWhole_whole _) scM0_2 (Memref.isWhole_whole _) (iblk m (oR m hR) c 0 t) (iblk m (oR m hR) c 1 t) (iblk m (oR m hR) c 2 t) (iblk m (oR m hR) c 3 t) (iblk m (oR m hR) c 4 t) (iblk m (oR m hR) c 5 t) (iblk m (oR m hR) c 6 t) (tbl m 0) (tbl m 1) hc hv p.2.1 p.2.2.1 p.2.2.2, p.2)

theorem condF_zero (hR : Rng m) (c : Dev nD) (t : Fin (cfgM m (oR m hR)).N) (h0 : t.val = 0) : condF c (grid0.coords t) (tbl m 0) (tbl m 1) := by
  have e : (grid0.coords t 0).val = t.val := coords_val t
  rw [condF_iff m hR]
  have hp := nv_pos hR
  exact ⟨by omega, .inl (by omega)⟩

/-- The output's buffer and the three weight buffers after the body at point `n`. -/
def outsAt0 (hR : Rng m) (c : Dev nD) : (n : ℕ) → n < (cfgM m (oR m hR)).N → Vec F S256x1024 .f32 × Vec F S1024x1024 .bf16 × Vec F S1024x1024 .bf16 × Vec F S1024x1024 .bf16
  | 0, hn => stepA m hR c ⟨0, hn⟩ (condF_zero m hR c _ rfl)
  | n + 1, hn =>
    if hc : condF c (grid0.coords ⟨n + 1, hn⟩) (tbl m 0) (tbl m 1) then stepA m hR c ⟨n + 1, hn⟩ hc
    else if hv : condV c (grid0.coords ⟨n + 1, hn⟩) (tbl m 1) then stepB m hR c ⟨n + 1, hn⟩ hc hv (outsAt0 hR c n (Nat.lt_of_succ_lt hn))
    else outsAt0 hR c n (Nat.lt_of_succ_lt hn)

theorem outsAt0_A (hR : Rng m) (c : Dev nD) (t : Fin (cfgM m (oR m hR)).N) (hc : condF c (grid0.coords t) (tbl m 0) (tbl m 1)) :
    outsAt0 m hR c t.val t.isLt = stepA m hR c t hc := by
  obtain ⟨n, hn⟩ := t
  cases n with
  | zero => rfl
  | succ n => exact dif_pos hc

theorem outsAt0_B (hR : Rng m) (c : Dev nD) (t : Fin (cfgM m (oR m hR)).N) (hc : ¬condF c (grid0.coords t) (tbl m 0) (tbl m 1)) (hv : condV c (grid0.coords t) (tbl m 1)) :
    outsAt0 m hR c t.val t.isLt = stepB m hR c t hc hv (outsAt0 m hR c (t.val - 1) (Nat.lt_of_le_of_lt (Nat.sub_le _ _) t.isLt)) := by
  obtain ⟨n, hn⟩ := t
  cases n with
  | zero => exact absurd (condF_zero m hR c _ rfl) hc
  | succ n => exact (dif_neg hc).trans (dif_pos hv)

theorem outsAt0_C (hR : Rng m) (c : Dev nD) (t : Fin (cfgM m (oR m hR)).N) (hc : ¬condF c (grid0.coords t) (tbl m 0) (tbl m 1)) (hv : ¬condV c (grid0.coords t) (tbl m 1)) :
    outsAt0 m hR c t.val t.isLt = outsAt0 m hR c (t.val - 1) (Nat.lt_of_le_of_lt (Nat.sub_le _ _) t.isLt) := by
  obtain ⟨n, hn⟩ := t
  cases n with
  | zero => exact absurd (condF_zero m hR c _ rfl) hc
  | succ n => exact (dif_neg hc).trans (dif_neg hv)

/-- The three weight buffers at what `p` says. -/
abbrev heldS (c : Dev nD) (p : Vec F S256x1024 .f32 × Vec F S1024x1024 .bf16 × Vec F S1024x1024 .bf16 × Vec F S1024x1024 .bf16) : sProp 𝕄 :=
  iprop(owns (c : Thread nD τ) scM0_0 fullShare p.2.1 ∗ owns (c : Thread nD τ) scM0_1 fullShare p.2.2.1 ∗ owns (c : Thread nD τ) scM0_2 fullShare p.2.2.2)

/-- The region's invariant before position `n`: the weight buffers at anything before the first point, then at what the
    point before left; the generator register; the tables' halves. -/
def PhiS (hR : Rng m) (c : Dev nD) : (n : ℕ) → n ≤ (cfgM m (oR m hR)).N → sProp 𝕄
  | 0, _ => iprop(Pipeline.ΦA spec0 c ∗ Pipeline.ΦT pre0 (tbl m) c)
  | n + 1, hn => iprop(iprop(heldS c (outsAt0 m hR c n hn) ∗ (∃ r, prngReg c r)) ∗ Pipeline.ΦT pre0 (tbl m) c)

theorem PhiS_zero (hR : Rng m) (c : Dev nD) (n : ℕ) (h : n ≤ (cfgM m (oR m hR)).N) (hz : n = 0) : PhiS m hR c n h = iprop(Pipeline.ΦA spec0 c ∗ Pipeline.ΦT pre0 (tbl m) c) := by
  subst hz; rfl

theorem PhiS_succ (hR : Rng m) (c : Dev nD) (n : ℕ) (hn : n < (cfgM m (oR m hR)).N) :
    PhiS m hR c (n + 1) hn = iprop(iprop(heldS c (outsAt0 m hR c n hn) ∗ (∃ r, prngReg c r)) ∗ Pipeline.ΦT pre0 (tbl m) c) := rfl

theorem PhiS_pos (hR : Rng m) (c : Dev nD) (n : ℕ) (h : n ≤ (cfgM m (oR m hR)).N) (hz : n ≠ 0) :
    PhiS m hR c n h = iprop(iprop(heldS c (outsAt0 m hR c (n - 1) (by omega)) ∗ (∃ r, prngReg c r)) ∗ Pipeline.ΦT pre0 (tbl m) c) := by
  cases n with
  | zero => exact absurd rfl hz
  | succ n => rfl

/-- At any position the invariant gives the weight buffers at some contents. -/
theorem PhiS_any (hR : Rng m) (c : Dev nD) (n : ℕ) (h : n ≤ (cfgM m (oR m hR)).N) :
    PhiS m hR c n h ⊢ iprop(Pipeline.ΦA spec0 c ∗ Pipeline.ΦT pre0 (tbl m) c) := by
  by_cases hz : n = 0
  · rw [PhiS_zero m hR c n h hz]
  · rw [PhiS_pos m hR c n h hz, PhiA0_eq]
    iintro ⟨⟨⟨HS0, HS1, HS2⟩, Hg⟩, HT⟩
    isplitl [HS0 HS1 HS2 Hg]
    · isplitl [HS0 HS1 HS2]
      · isplitl [HS0]
        · iexists _; iexact HS0
        isplitl [HS1]
        · iexists _; iexact HS1
        iexists _; iexact HS2
      iexact Hg
    iexact HT

/-! ## The pipeline's proof data -/

/-- The arrays as the region finds them; after the body at a point each input's buffer at its block and the output's at
    `outsAt0`; nothing owed; full shares. -/
def dats (hR : Rng m) (_ : Fin 1) (c : Dev nD) : Dat τ (Elt F) Unit ℕ (UR sig nD τ) ℕ (cfgM m (oR m hR)) c where
  A w := V m c (Pipeline.arrRef spec0 w)
  after w t := match w with
    | ⟨0, _⟩ => iblk m (oR m hR) c 0 t
    | ⟨1, _⟩ => iblk m (oR m hR) c 1 t
    | ⟨2, _⟩ => iblk m (oR m hR) c 2 t
    | ⟨3, _⟩ => iblk m (oR m hR) c 3 t
    | ⟨4, _⟩ => iblk m (oR m hR) c 4 t
    | ⟨5, _⟩ => iblk m (oR m hR) c 5 t
    | ⟨6, _⟩ => iblk m (oR m hR) c 6 t
    | ⟨7, _⟩ => (outsAt0 m hR c t.val t.isLt).1
  Φ t := PhiS m hR c t.val (Nat.le_of_lt_succ t.isLt)
  q _ := fullShare
  owed _ := 0

theorem A_eq (hR : Rng m) (c : Dev nD) (w : Fin (cfgM m (oR m hR)).W) : (dats m hR 0 c).A w = V m c (Pipeline.arrRef spec0 w) := by
  dsimp only [dats]

theorem PhiS_castSucc (hR : Rng m) (c : Dev nD) (t : Fin (cfgM m (oR m hR)).N) :
    (dats m hR 0 c).Φ t.castSucc = PhiS m hR c t.val (Nat.le_of_lt t.isLt) := by
  dsimp only [dats]; exact Pipeline.Dat.Φ_castSucc (PhiS m hR c) t

theorem after0_0 (hR : Rng m) (c : Dev nD) (t : Fin (cfgM m (oR m hR)).N) : (dats m hR 0 c).after 0 t = iblk m (oR m hR) c 0 t := by dsimp only [dats]; try rfl
theorem after0_1 (hR : Rng m) (c : Dev nD) (t : Fin (cfgM m (oR m hR)).N) : (dats m hR 0 c).after 1 t = iblk m (oR m hR) c 1 t := by dsimp only [dats]; try rfl
theorem after0_2 (hR : Rng m) (c : Dev nD) (t : Fin (cfgM m (oR m hR)).N) : (dats m hR 0 c).after 2 t = iblk m (oR m hR) c 2 t := by dsimp only [dats]; try rfl
theorem after0_3 (hR : Rng m) (c : Dev nD) (t : Fin (cfgM m (oR m hR)).N) : (dats m hR 0 c).after 3 t = iblk m (oR m hR) c 3 t := by dsimp only [dats]; try rfl
theorem after0_4 (hR : Rng m) (c : Dev nD) (t : Fin (cfgM m (oR m hR)).N) : (dats m hR 0 c).after 4 t = iblk m (oR m hR) c 4 t := by dsimp only [dats]; try rfl
theorem after0_5 (hR : Rng m) (c : Dev nD) (t : Fin (cfgM m (oR m hR)).N) : (dats m hR 0 c).after 5 t = iblk m (oR m hR) c 5 t := by dsimp only [dats]; try rfl
theorem after0_6 (hR : Rng m) (c : Dev nD) (t : Fin (cfgM m (oR m hR)).N) : (dats m hR 0 c).after 6 t = iblk m (oR m hR) c 6 t := by dsimp only [dats]; try rfl
theorem after0_7 (hR : Rng m) (c : Dev nD) (t : Fin (cfgM m (oR m hR)).N) : (dats m hR 0 c).after 7 t = (outsAt0 m hR c t.val t.isLt).1 := by dsimp only [dats]; try rfl

theorem before0_0 (hR : Rng m) (c : Dev nD) (t : Fin (cfgM m (oR m hR)).N) (d) : (dats m hR 0 c).before 0 t d = iblk m (oR m hR) c 0 t :=
  before0_0_of m (oR m hR) (dats m hR 0 c) (A_eq m hR c 0) (after0_0 m hR c) t d
theorem before0_1 (hR : Rng m) (c : Dev nD) (t : Fin (cfgM m (oR m hR)).N) (d) : (dats m hR 0 c).before 1 t d = iblk m (oR m hR) c 1 t :=
  before0_1_of m (oR m hR) (dats m hR 0 c) (A_eq m hR c 1) (after0_1 m hR c) t d
theorem before0_2 (hR : Rng m) (c : Dev nD) (t : Fin (cfgM m (oR m hR)).N) (d) : (dats m hR 0 c).before 2 t d = iblk m (oR m hR) c 2 t :=
  before0_2_of m (oR m hR) (dats m hR 0 c) (A_eq m hR c 2) (after0_2 m hR c) t d
theorem before0_3 (hR : Rng m) (c : Dev nD) (t : Fin (cfgM m (oR m hR)).N) (d) : (dats m hR 0 c).before 3 t d = iblk m (oR m hR) c 3 t :=
  before0_3_of m (oR m hR) (dats m hR 0 c) (A_eq m hR c 3) (after0_3 m hR c) t d
theorem before0_4 (hR : Rng m) (c : Dev nD) (t : Fin (cfgM m (oR m hR)).N) (d) : (dats m hR 0 c).before 4 t d = iblk m (oR m hR) c 4 t :=
  before0_4_of m (oR m hR) (dats m hR 0 c) (A_eq m hR c 4) (after0_4 m hR c) t d
theorem before0_5 (hR : Rng m) (c : Dev nD) (t : Fin (cfgM m (oR m hR)).N) (d) : (dats m hR 0 c).before 5 t d = iblk m (oR m hR) c 5 t :=
  before0_5_of m (oR m hR) (dats m hR 0 c) (A_eq m hR c 5) (after0_5 m hR c) t d
theorem before0_6 (hR : Rng m) (c : Dev nD) (t : Fin (cfgM m (oR m hR)).N) (d) : (dats m hR 0 c).before 6 t d = iblk m (oR m hR) c 6 t :=
  before0_6_of m (oR m hR) (dats m hR 0 c) (A_eq m hR c 6) (after0_6 m hR c) t d

/-- A point past the blocks in use leaves the output's buffer as the point before did. -/
theorem carry7 (hR : Rng m) (c : Dev nD) (t : Fin (cfgM m (oR m hR)).N) (hv : ¬condV c (grid0.coords t) (tbl m 1)) :
    (dats m hR 0 c).after 7 t = (dats m hR 0 c).after 7 ⟨t.val - 1, Nat.lt_of_le_of_lt (Nat.sub_le _ _) t.isLt⟩ := by
  rw [after0_7, after0_7, outsAt0_C m hR c t (fun h => hv (condV_of_condF m hR c _ h)) hv]

theorem notV_iff (hR : Rng m) (c : Dev nD) (t : Fin (cfgM m (oR m hR)).N) : (cfgM m (oR m hR)).idle 7 (grid0.coords t) = true ↔ ¬condV c (grid0.coords t) (tbl m 1) := by
  rw [condV_iff m hR]; exact idle7_iff m hR (oR m hR) _

/-- What the output's buffer holds when the body runs at a point past the blocks in use. -/
theorem before0_7 (hR : Rng m) (c : Dev nD) (t : Fin (cfgM m (oR m hR)).N) (hv : ¬condV c (grid0.coords t) (tbl m 1)) (d) :
    (dats m hR 0 c).before 7 t d = (dats m hR 0 c).after 7 t := by
  have hN : t.val < 288 := lt_of_lt_of_eq t.isLt (show (cfgM m (oR m hR)).N = 288 from N_0)
  have e : (grid0.coords t 0).val = t.val := coords_val t
  have hge : nv m ≤ t.val := by
    have := mt (condV_iff m hR c (grid0.coords t)).mpr hv
    rw [e] at this; omega
  have hf : (cfgM m (oR m hR)).fresh 7 t.val = false := fresh7_false m hR (oR m hR) t.val hge hN
  have h := (dats m hR 0 c).before_out_traj (7 : Fin 8) rfl (fun _ _ => rfl)
    (fun t ht hi _ => carry7 m hR c t ((notV_iff m hR c t).mp hi)) t.val t rfl d
  refine h.trans ((if_neg (by rw [hf]; exact Bool.false_ne_true)).trans ?_)
  exact (carry7 m hR c t hv).symm

/-! ## The body obligation -/

/-- What the body is called with at point `t`, -/
def bodyPre (hR : Rng m) (c : Dev nD) (t : Fin (cfgM m (oR m hR)).N) : sProp 𝕄 :=
  iprop((dats m hR 0 c).Φ t.castSucc ∗ (dats m hR 0 c).owesAt () t.castSucc
    ∗ (∃ d, owns (c : Thread nD τ) (ms0_0 m (oR m hR) t) fullShare ((dats m hR 0 c).before 0 t d))
    ∗ (∃ d, owns (c : Thread nD τ) (ms0_1 m (oR m hR) t) fullShare ((dats m hR 0 c).before 1 t d))
    ∗ (∃ d, owns (c : Thread nD τ) (ms0_2 m (oR m hR) t) fullShare ((dats m hR 0 c).before 2 t d))
    ∗ (∃ d, owns (c : Thread nD τ) (ms0_3 m (oR m hR) t) fullShare ((dats m hR 0 c).before 3 t d))
    ∗ (∃ d, owns (c : Thread nD τ) (ms0_4 m (oR m hR) t) fullShare ((dats m hR 0 c).before 4 t d))
    ∗ (∃ d, owns (c : Thread nD τ) (ms0_5 m (oR m hR) t) fullShare ((dats m hR 0 c).before 5 t d))
    ∗ (∃ d, owns (c : Thread nD τ) (ms0_6 m (oR m hR) t) fullShare ((dats m hR 0 c).before 6 t d))
    ∗ (∃ d, owns (c : Thread nD τ) (ms0_7 m (oR m hR) t) fullShare ((dats m hR 0 c).before 7 t d)))

/-- and what it returns. -/
def bodyPost (hR : Rng m) (c : Dev nD) (t : Fin (cfgM m (oR m hR)).N) : sProp 𝕄 :=
  iprop((dats m hR 0 c).Φ t.succ ∗ (dats m hR 0 c).owesAt () t.succ
    ∗ owns (c : Thread nD τ) (ms0_0 m (oR m hR) t) fullShare ((dats m hR 0 c).after 0 t)
    ∗ owns (c : Thread nD τ) (ms0_1 m (oR m hR) t) fullShare ((dats m hR 0 c).after 1 t)
    ∗ owns (c : Thread nD τ) (ms0_2 m (oR m hR) t) fullShare ((dats m hR 0 c).after 2 t)
    ∗ owns (c : Thread nD τ) (ms0_3 m (oR m hR) t) fullShare ((dats m hR 0 c).after 3 t)
    ∗ owns (c : Thread nD τ) (ms0_4 m (oR m hR) t) fullShare ((dats m hR 0 c).after 4 t)
    ∗ owns (c : Thread nD τ) (ms0_5 m (oR m hR) t) fullShare ((dats m hR 0 c).after 5 t)
    ∗ owns (c : Thread nD τ) (ms0_6 m (oR m hR) t) fullShare ((dats m hR 0 c).after 6 t)
    ∗ (dats m hR 0 c).leavesExact 7 t)

/-- At a block in use the output's buffer is handed back at what the body leaves, -/
theorem leaves7_V (hR : Rng m) (c : Dev nD) (t : Fin (cfgM m (oR m hR)).N) (hv : condV c (grid0.coords t) (tbl m 1)) :
    owns (c : Thread nD τ) (ms0_7 m (oR m hR) t) fullShare ((dats m hR 0 c).after 7 t) ⊢ (dats m hR 0 c).leavesExact 7 t := by
  have hi : (cfgM m (oR m hR)).idle 7 ((cfgM m (oR m hR)).grid.coords t) = false := by
    rw [← Bool.not_eq_true]; exact fun h => (notV_iff m hR c t).mp h hv
  unfold Pipeline.Dat.leavesExact
  rw [hi]
  exact .rfl

/-- and past them too: it is what the body found. -/
theorem leaves7_C (hR : Rng m) (c : Dev nD) (t : Fin (cfgM m (oR m hR)).N) (hv : ¬condV c (grid0.coords t) (tbl m 1)) (d) :
    owns (c : Thread nD τ) (ms0_7 m (oR m hR) t) fullShare ((dats m hR 0 c).before 7 t d) ⊢ (dats m hR 0 c).leavesExact 7 t := by
  have hi : (cfgM m (oR m hR)).idle 7 ((cfgM m (oR m hR)).grid.coords t) = true := (notV_iff m hR c t).mpr hv
  unfold Pipeline.Dat.leavesExact
  rw [hi]
  cases hf : ((cfgM m (oR m hR)).win 7).flush t
  · iintro H; iexists d; iexact H
  · rw [before0_7 m hR c t hv d]
    exact .rfl

set_option maxHeartbeats 6400000 in
theorem sound_A (hR : Rng m) (c : Dev nD) (t : Fin (cfgM m (oR m hR)).N) (hc : condF c (grid0.coords t) (tbl m 0) (tbl m 1)) :
    bodyPre m hR c t ⊢ wp frame (wpE (defs₀ (F := F)) Variants.none c none) Set.univ (bodyAt0 (adm m (oR m hR)) t) (fun _ => bodyPost m hR c t) := by
  have hv := condV_of_condF m hR c _ hc
  refine (sep_mono ((Entails.of_eq (PhiS_castSucc m hR c t)).trans (PhiS_any m hR c _ _)) .rfl).trans ?_
  have hL := leaves7_V m hR c t hv
  rw [after0_7, outsAt0_A m hR c t hc] at hL
  unfold bodyPost bodyAt0
  simp only [before0_0, before0_1, before0_2, before0_3, before0_4, before0_5, before0_6]
  rw [show (dats m hR 0 c).owesAt () t.succ = (dats m hR 0 c).owesAt () t.castSucc from rfl,
    after0_0, after0_1, after0_2, after0_3, after0_4, after0_5, after0_6]
  rw [show (dats m hR 0 c).Φ t.succ = PhiS m hR c (t.val + 1) t.isLt from rfl, PhiS_succ, PhiT0_eq]
  rw [PhiA0_eq]
  rw [outsAt0_A m hR c t hc]
  unfold heldS
  unfold stepA out0_A_7 sout0_A_0 sout0_A_1 sout0_A_2 at *; dsimp only at *
  iintro ⟨⟨⟨⟨HS0, HS1, HS2⟩, Hg⟩, ⟨HT0, HT1⟩⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((kernelRun0_A c (grid0.coords t) _ _ _ _ _ _ _ _ _ _ _ _ _ _ _ _ _ _ _ _ _ _ (iblk m (oR m hR) c 0 t) (iblk m (oR m hR) c 1 t) (iblk m (oR m hR) c 2 t) (iblk m (oR m hR) c 3 t) (iblk m (oR m hR) c 4 t) (iblk m (oR m hR) c 5 t) (iblk m (oR m hR) c 6 t) (tbl m 0) (tbl m 1) hc hv).2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [HS0]; · iexact HS0
  isplitl [HS1]; · iexact HS1
  isplitl [HS2]; · iexact HS2
  isplitl [HT0]; · iexact HT0
  isplitl [HT1]; · iexact HT1
  iintro ⟨H0, H1, H2, H3, H4, H5, H6, ⟨%e7, H7⟩, ⟨%es0, HS0⟩, ⟨%es1, HS1⟩, ⟨%es2, HS2⟩, HT0, HT1⟩
  isplitl [HS0 HS1 HS2 Hg HT0 HT1]
  · isplitl [HS0 HS1 HS2 Hg]
    · isplitl [HS0 HS1 HS2]
      · isplitl [HS0]
        · unfold owns; iexists _; isplitr
          swap; · iexact HS0
          ipureintro; exact View.read_writes_of_cover _ _ _ _ _ (scover0_A_0 c _ _ _ _ _ _ _ _ _ _ _ _ _ _ _ _ _ _ _ _ _ _ _ _ _ _ _ _ _ _ _ _ _ _)
        isplitl [HS1]
        · unfold owns; iexists _; isplitr
          swap; · iexact HS1
          ipureintro; exact View.read_writes_of_cover _ _ _ _ _ (scover0_A_1 c _ _ _ _ _ _ _ _ _ _ _ _ _ _ _ _ _ _ _ _ _ _ _ _ _ _ _ _ _ _ _ _ _ _)
        unfold owns; iexists _; isplitr
        swap; · iexact HS2
        ipureintro; exact View.read_writes_of_cover _ _ _ _ _ (scover0_A_2 c _ _ _ _ _ _ _ _ _ _ _ _ _ _ _ _ _ _ _ _ _ _ _ _ _ _ _ _ _ _ _ _ _ _)
      iexact Hg
    isplitl [HT0]; · iexact HT0
    iexact HT1
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iapply hL
  unfold owns; iexists _; isplitr
  swap; · iexact H7
  ipureintro; exact View.read_writes_of_cover _ _ _ _ _ (cover0_A_7 c _ _ _ _ _ _ _ _ _ _ _ _ _ _ _ _ _ _ _ _ _ _ _ _ _ _ _ _ _ _ _ _ _ _)

set_option maxHeartbeats 6400000 in
theorem sound_B (hR : Rng m) (c : Dev nD) (t : Fin (cfgM m (oR m hR)).N) (hc : ¬condF c (grid0.coords t) (tbl m 0) (tbl m 1)) (hv : condV c (grid0.coords t) (tbl m 1)) :
    bodyPre m hR c t ⊢ wp frame (wpE (defs₀ (F := F)) Variants.none c none) Set.univ (bodyAt0 (adm m (oR m hR)) t) (fun _ => bodyPost m hR c t) := by
  have hz : t.val ≠ 0 := fun h => hc (condF_zero m hR c t h)
  have hL := leaves7_V m hR c t hv
  rw [after0_7, outsAt0_B m hR c t hc hv] at hL
  unfold bodyPre bodyPost bodyAt0
  simp only [before0_0, before0_1, before0_2, before0_3, before0_4, before0_5, before0_6]
  rw [show (dats m hR 0 c).owesAt () t.succ = (dats m hR 0 c).owesAt () t.castSucc from rfl,
    after0_0, after0_1, after0_2, after0_3, after0_4, after0_5, after0_6]
  rw [show (dats m hR 0 c).Φ t.succ = PhiS m hR c (t.val + 1) t.isLt from rfl, PhiS_succ, PhiT0_eq]
  rw [PhiS_castSucc m hR c t, PhiS_pos m hR c _ _ hz, PhiT0_eq]
  rw [outsAt0_B m hR c t hc hv]
  unfold heldS
  unfold stepB out0_B_7 at *; dsimp only at *
  iintro ⟨⟨⟨⟨HS0, HS1, HS2⟩, Hg⟩, ⟨HT0, HT1⟩⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((kernelRun0_B c (grid0.coords t) _ _ _ _ _ _ _ _ _ _ _ _ _ _ _ _ _ _ _ _ _ _ (iblk m (oR m hR) c 0 t) (iblk m (oR m hR) c 1 t) (iblk m (oR m hR) c 2 t) (iblk m (oR m hR) c 3 t) (iblk m (oR m hR) c 4 t) (iblk m (oR m hR) c 5 t) (iblk m (oR m hR) c 6 t) (tbl m 0) (tbl m 1) hc hv _ _ _).2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [HS0]; · iexact HS0
  isplitl [HS1]; · iexact HS1
  isplitl [HS2]; · iexact HS2
  isplitl [HT0]; · iexact HT0
  isplitl [HT1]; · iexact HT1
  iintro ⟨H0, H1, H2, H3, H4, H5, H6, ⟨%e7, H7⟩, HS0, HS1, HS2, HT0, HT1⟩
  isplitl [HS0 HS1 HS2 Hg HT0 HT1]
  · isplitl [HS0 HS1 HS2 Hg]
    · isplitl [HS0 HS1 HS2]
      · isplitl [HS0]; · iexact HS0
        isplitl [HS1]; · iexact HS1
        iexact HS2
      iexact Hg
    isplitl [HT0]; · iexact HT0
    iexact HT1
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iapply hL
  unfold owns; iexists _; isplitr
  swap; · iexact H7
  ipureintro; exact View.read_writes_of_cover _ _ _ _ _ (cover0_B_7 c _ _ _ _ _ _ _ _ _ _ _ _ _ _ _ _ _ _ _ _ _ _ _ _ _ _ _ _ _ _ _ _ _ _ _ _ _)

set_option maxHeartbeats 6400000 in
theorem sound_C (hR : Rng m) (c : Dev nD) (t : Fin (cfgM m (oR m hR)).N) (hc : ¬condF c (grid0.coords t) (tbl m 0) (tbl m 1)) (hv : ¬condV c (grid0.coords t) (tbl m 1)) :
    bodyPre m hR c t ⊢ wp frame (wpE (defs₀ (F := F)) Variants.none c none) Set.univ (bodyAt0 (adm m (oR m hR)) t) (fun _ => bodyPost m hR c t) := by
  have hz : t.val ≠ 0 := fun h => hc (condF_zero m hR c t h)
  have hL := leaves7_C m hR c t hv
  unfold bodyPre bodyPost bodyAt0
  simp only [before0_0, before0_1, before0_2, before0_3, before0_4, before0_5, before0_6]
  rw [show (dats m hR 0 c).owesAt () t.succ = (dats m hR 0 c).owesAt () t.castSucc from rfl,
    after0_0, after0_1, after0_2, after0_3, after0_4, after0_5, after0_6]
  rw [show (dats m hR 0 c).Φ t.succ = PhiS m hR c (t.val + 1) t.isLt from rfl, PhiS_succ, PhiT0_eq]
  rw [PhiS_castSucc m hR c t, PhiS_pos m hR c _ _ hz, PhiT0_eq]
  rw [outsAt0_C m hR c t hc hv]
  unfold heldS
  iintro ⟨⟨⟨⟨HS0, HS1, HS2⟩, Hg⟩, ⟨HT0, HT1⟩⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (kernelRun0_C c (grid0.coords t) _ _ _ _ _ _ _ _ _ _ _ _ _ _ _ _ _ _ _ _ _ _ (iblk m (oR m hR) c 0 t) (iblk m (oR m hR) c 1 t) (iblk m (oR m hR) c 2 t) (iblk m (oR m hR) c 3 t) (iblk m (oR m hR) c 4 t) (iblk m (oR m hR) c 5 t) (iblk m (oR m hR) c 6 t) (tbl m 0) (tbl m 1) hc hv ((dats m hR 0 c).before 7 t d7) _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HS0]; · iexact HS0
  isplitl [HS1]; · iexact HS1
  isplitl [HS2]; · iexact HS2
  isplitl [HT0]; · iexact HT0
  isplitl [HT1]; · iexact HT1
  iintro ⟨H0, H1, H2, H3, H4, H5, H6, H7, HS0, HS1, HS2, HT0, HT1⟩
  isplitl [HS0 HS1 HS2 Hg HT0 HT1]
  · isplitl [HS0 HS1 HS2 Hg]
    · isplitl [HS0 HS1 HS2]
      · isplitl [HS0]; · iexact HS0
        isplitl [HS1]; · iexact HS1
        iexact HS2
      iexact Hg
    isplitl [HT0]; · iexact HT0
    iexact HT1
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iapply (hL d7)
  iexact H7

theorem sound_body (hR : Rng m) (c : Dev nD) (t : Fin (cfgM m (oR m hR)).N) :
    bodyPre m hR c t ⊢ wp frame (wpE (defs₀ (F := F)) Variants.none c none) Set.univ (bodyAt0 (adm m (oR m hR)) t) (fun _ => bodyPost m hR c t) := by
  by_cases hc : condF c (grid0.coords t) (tbl m 0) (tbl m 1)
  · exact sound_A m hR c t hc
  · by_cases hv : condV c (grid0.coords t) (tbl m 1)
    · exact sound_B m hR c t hc hv
    · exact sound_C m hR c t hc hv

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

theorem body_obligation (hR : Rng m) (c : Dev nD) : BodyObligation (dats (F := F) m hR 0 c) (defs₀ (F := F)) Variants.none () Set.univ := fun t => by
  rw [bigSep_W0, bigSep_W0, defs₀_row m (oR m hR)]
  exact triple_restated (sound_body m hR c t) rfl .rfl fun _ => .rfl

theorem hin (hR : Rng m) (c : Dev nD) : iprop(Pipeline.ΦA spec0 c ∗ Pipeline.ΦT pre0 (tbl m) c) ⊢ (dats m hR 0 c).Φ 0 := by
  rw [show (dats m hR 0 c).Φ 0 = PhiS m hR c 0 (Nat.zero_le _) from rfl, PhiS_zero m hR c 0 _ rfl]

theorem hout (hR : Rng m) (c : Dev nD) : (dats m hR 0 c).Φ (Fin.last (cfgM m (oR m hR)).N) ⊢ Pipeline.ΦA spec0 c := by
  rw [show (dats m hR 0 c).Φ (Fin.last (cfgM m (oR m hR)).N) = PhiS m hR c (cfgM m (oR m hR)).N (Nat.le_refl _) from rfl]
  refine (PhiS_any m hR c _ _).trans ?_
  iintro ⟨H, -⟩
  iexact H

/-! ## The run and the frame -/

set_option backward.isDefEq.respectTransparency.types false in
theorem run_main_quiescent (hR : Rng m) : θ_run defs (onTc (τ := τ) (main (F := F))) (s₀ m ρ) (fun r => (Pipeline.FramePost (Pipeline.pin pcfgs fun _ => adm m (oR m hR)) (dats m hR) 0 (V m)) r ∧ r.2.sem = fun _ => 0) :=
  Pipeline.θ_run_frameP_track (Q' := _) pcfgs (fun _ => adm m (oR m hR)) (dats m hR) (0 : Fin 1) launch0 defs₀ Variants.none m ρ main
    (hbody := fun c => (body_obligation m hR c).loose) (hshare := fun c => (dats m hR 0 c).share_full fun _ => rfl)
    (howed := fun _ _ => rfl) (V := V m) (hmain := hmain m Variants.none) (hA := A_eq m hR) (hpf := V_pre m)
    (hin := hin m hR) (hout := hout m hR)

theorem run_main (hR : Rng m) : θ_run defs (onTc (τ := τ) (main (F := F))) (s₀ m ρ) (Pipeline.FramePost (Pipeline.pin pcfgs fun _ => adm m (oR m hR)) (dats m hR) 0 (V m)) :=
  (θ_run defs _ _).mono (fun _ h => h.1) (run_main_quiescent m ρ hR)

/-- The call runs, leaves its arguments unchanged, and every counter ends at zero. -/
theorem frame (hR : Rng m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_and (frame_of m ρ (oR m hR) (dats m hR) (A_eq m hR) (run_main m ρ hR)) ((θ_run defs _ _).mono (fun _ h => h.2) (run_main_quiescent m ρ hR))

end Cert.KernelIdeal.Gen

end
-- ==== Proof.FfnPre.lean ====
module

public import proofs.«01_k».proof.Defs
public import proofs.«01_k».proof.Proof.FfnFacts
public import proofs.«01_k».proof.Proof.FfnIdealFacts
public import proofs.«01_k».proof.Proof.Gen.Pre_experts_and_count_in_range
public import Idealize.ShloMosaic.Lib.Pointwise

@[expose] public section

/-! What the precondition says of the two tables of the expert feed-forward call: every block names one of the
thirty-two experts, and between one block and all of them are in use. -/

set_option maxRecDepth 16384

noncomputable section

namespace Cert.Proof.FfnPre

open Idealize.ShloMosaic Idealize.ShloMosaic.TcCoe Idealize.SL.Sem

variable {F : FTy → Type} [FloatOps F]

theorem word_lt (w : BitVec 32) (h0 : IntOp.cmpi .sge w 0#32 = 1#1) (h1 : IntOp.cmpi .slt w 32#32 = 1#1) : w.toNat < 32 := by
  have a : BitVec.ofBool ((0#32).sle w) = 1#1 := h0
  have b : BitVec.ofBool (w.slt 32#32) = 1#1 := h1
  have a' : (0#32).sle w = true := by revert a; cases (0#32).sle w <;> decide
  have b' : w.slt 32#32 = true := by revert b; cases w.slt 32#32 <;> decide
  rw [BitVec.sle, decide_eq_true_iff] at a'
  rw [BitVec.slt, decide_eq_true_iff] at b'
  have e := BitVec.toInt_eq_toNat_cond w
  have z : (0#32).toInt = 0 := by decide
  have y : (32#32).toInt = 32 := by decide
  have hw := w.isLt
  rw [z] at a'; rw [y] at b'
  split at e <;> omega

theorem word_mem (w : BitVec 32) (h0 : IntOp.cmpi .sge w 1#32 = 1#1) (h1 : IntOp.cmpi .sle w 288#32 = 1#1) : 1 ≤ w.toNat ∧ w.toNat ≤ 288 := by
  have a : BitVec.ofBool ((1#32).sle w) = 1#1 := h0
  have b : BitVec.ofBool (w.sle 288#32) = 1#1 := h1
  have a' : (1#32).sle w = true := by revert a; cases (1#32).sle w <;> decide
  have b' : w.sle 288#32 = true := by revert b; cases w.sle 288#32 <;> decide
  rw [BitVec.sle, decide_eq_true_iff] at a' b'
  have e := BitVec.toInt_eq_toNat_cond w
  have z : (1#32).toInt = 1 := by decide
  have y : (288#32).toInt = 288 := by decide
  have hw := w.isLt
  rw [z] at a'; rw [y] at b'
  split at e <;> omega

theorem and_one (a b : BitVec 1) (h : IntOp.andi a b = 1#1) : a = 1#1 ∧ b = 1#1 := by
  revert a b; decide

/-- The precondition, read at each block of the first table and at the one word of the second. -/
theorem of_pre (x0 : IVec Pre_experts_and_count_in_range.S288 32) (x1 : IVec Pre_experts_and_count_in_range.S1 32) (x2 x3 x4 x5 x6 x7 x8)
    (h : Pre_experts_and_count_in_range.fn (F := F) x0 x1 x2 x3 x4 x5 x6 x7 x8 = fun _ => 1#1) :
    (∀ k, (x0 k).toNat < 32) ∧ ∀ k, 1 ≤ (x1 k).toNat ∧ (x1 k).toNat ≤ 288 := by
  have one : ∀ k : Pre_experts_and_count_in_range.S1.Idx, ∀ k', k = k' := by
    intro k k'; funext a; apply Fin.ext
    have h1 : Pre_experts_and_count_in_range.S1.size a = 1 := by fin_cases a; rfl
    have h := (k a).isLt
    have h' := (k' a).isLt
    omega
  have key : ∀ k, (IntOp.cmpi .sge (x0 k) 0#32 = 1#1 ∧ IntOp.cmpi .slt (x0 k) 32#32 = 1#1) ∧ ∃ k', IntOp.cmpi .sge (x1 k') 1#32 = 1#1 ∧ ∃ k', IntOp.cmpi .sle (x1 k') 288#32 = 1#1 := by
    intro k
    have hk := congrFun h k
    obtain ⟨h1, h2⟩ := and_one _ _ hk
    obtain ⟨h3, h4⟩ := and_one _ _ h1
    obtain ⟨h5, h6⟩ := and_one _ _ h3
    exact ⟨⟨h5, h6⟩, _, h4, _, h2⟩
  refine ⟨fun k => word_lt _ (key k).1.1 (key k).1.2, fun k => ?_⟩
  obtain ⟨k1, h1, k2, h2⟩ := (key fun a => ⟨0, by fin_cases a; decide⟩).2
  rw [one k1 k] at h1; rw [one k2 k] at h2
  exact word_mem _ h1 h2

theorem rng_kernel (m : (ℓ : Loc Cert.Kernel.nD Cert.Kernel.τ Cert.Kernel.sig) → Buf (Elt Bits) ℓ)
    (h : Cert.Pre_Kernel m) : Cert.Kernel.Gen.Rng m :=
  of_pre (F := Bits) _ _ _ _ _ _ _ _ _ (h 0)

theorem rng_ideal (m : (ℓ : Loc Cert.KernelIdeal.nD Cert.KernelIdeal.τ Cert.KernelIdeal.sig) → Buf (Elt Ideal) ℓ)
    (h : Cert.Pre_KernelIdeal m) : Cert.KernelIdeal.Gen.Rng m :=
  of_pre (F := Ideal) _ _ _ _ _ _ _ _ _ (h 0)

end Cert.Proof.FfnPre

end
-- ==== Proof.FfnIdealOut.lean ====
module

public import proofs.«01_k».proof.Proof.FfnIdealFrame
public import Idealize.ShloMosaic.Lib.Pointwise
public import Idealize.ShloMosaic.Lib.Pipeline.ValueKit

@[expose] public section

/-! What the body leaves at a point, opened to what it computes from the blocks it is given. -/

set_option maxRecDepth 16384

noncomputable section

namespace Cert.KernelIdeal.Gen

open Idealize.ShloMosaic Idealize.ShloMosaic.TcCoe Idealize.SL.Sem

variable (c : Dev nD) (i : grid0.Coords) (arg3 : Memref sig .tc .vmem S256x1024 .bf16) (harg3 : arg3.IsWhole) (arg4 : Memref sig .tc .vmem S1x1024x1024 .f32) (harg4 : arg4.IsWhole) (arg5 : Memref sig .tc .vmem S1x1x1024 .f32) (harg5 : arg5.IsWhole) (arg6 : Memref sig .tc .vmem S1x1024x1024 .f32) (harg6 : arg6.IsWhole) (arg7 : Memref sig .tc .vmem S1x1x1024 .f32) (harg7 : arg7.IsWhole) (arg8 : Memref sig .tc .vmem S1x1024x1024 .f32) (harg8 : arg8.IsWhole) (arg9 : Memref sig .tc .vmem S1x1x1024 .f32) (harg9 : arg9.IsWhole) (arg10 : Memref sig .tc .vmem S256x1024 .f32) (harg10 : arg10.IsWhole) (arg11 : Memref sig .tc .vmem S1024x1024 .bf16) (harg11 : arg11.IsWhole) (arg12 : Memref sig .tc .vmem S1024x1024 .bf16) (harg12 : arg12.IsWhole) (arg13 : Memref sig .tc .vmem S1024x1024 .bf16) (harg13 : arg13.IsWhole)
  (x0 : Vec Ideal S256x1024 .bf16) (x1 : Vec Ideal S1x1024x1024 .f32) (x2 : Vec Ideal S1x1x1024 .f32) (x3 : Vec Ideal S1x1024x1024 .f32) (x4 : Vec Ideal S1x1x1024 .f32) (x5 : Vec Ideal S1x1024x1024 .f32) (x6 : Vec Ideal S1x1x1024 .f32) (xt0 : TbBuf0 (F := Ideal) c tbM0_0) (xt1 : TbBuf0 (F := Ideal) c tbM0_1)

theorem sout0_A_0_eq (hc0 : condF c i xt0 xt1) (hv : condV c i xt1) :
    sout0_A_0 c i arg3 harg3 arg4 harg4 arg5 harg5 arg6 harg6 arg7 harg7 arg8 harg8 arg9 harg9 arg10 harg10 arg11 harg11 arg12 harg12 arg13 harg13 x0 x1 x2 x3 x4 x5 x6 xt0 xt1 hc0 hv = k0_pay1 x1 := by
  frame_out

theorem sout0_A_1_eq (hc0 : condF c i xt0 xt1) (hv : condV c i xt1) :
    sout0_A_1 c i arg3 harg3 arg4 harg4 arg5 harg5 arg6 harg6 arg7 harg7 arg8 harg8 arg9 harg9 arg10 harg10 arg11 harg11 arg12 harg12 arg13 harg13 x0 x1 x2 x3 x4 x5 x6 xt0 xt1 hc0 hv = k0_pay2 x3 := by
  frame_out

theorem sout0_A_2_eq (hc0 : condF c i xt0 xt1) (hv : condV c i xt1) :
    sout0_A_2 c i arg3 harg3 arg4 harg4 arg5 harg5 arg6 harg6 arg7 harg7 arg8 harg8 arg9 harg9 arg10 harg10 arg11 harg11 arg12 harg12 arg13 harg13 x0 x1 x2 x3 x4 x5 x6 xt0 xt1 hc0 hv = k0_pay3 x5 := by
  frame_out

theorem out0_A_7_eq (hc0 : condF c i xt0 xt1) (hv : condV c i xt1) :
    out0_A_7 c i arg3 harg3 arg4 harg4 arg5 harg5 arg6 harg6 arg7 harg7 arg8 harg8 arg9 harg9 arg10 harg10 arg11 harg11 arg12 harg12 arg13 harg13 x0 x1 x2 x3 x4 x5 x6 xt0 xt1 hc0 hv = k0_pay4 x0 (k0_pay1 x1) x2 (k0_pay2 x3) x4 (k0_pay3 x5) x6 := by
  frame_out

theorem out0_B_7_eq (hc0 : ¬condF c i xt0 xt1) (hv : condV c i xt1) (xs0 xs1 xs2 : Vec Ideal S1024x1024 .bf16) :
    out0_B_7 c i arg3 harg3 arg4 harg4 arg5 harg5 arg6 harg6 arg7 harg7 arg8 harg8 arg9 harg9 arg10 harg10 arg11 harg11 arg12 harg12 arg13 harg13 x0 x1 x2 x3 x4 x5 x6 xt0 xt1 hc0 hv xs0 xs1 xs2 = k0_pay4 x0 xs0 x2 xs1 x4 xs2 x6 := by
  frame_out

end Cert.KernelIdeal.Gen

end
-- ==== Proof.FfnFn.lean ====
module

public import proofs.«01_k».proof.Proof.Gen.KernelIdeal.Skeleton
public import Idealize.ShloMosaic.Lib.Pointwise
public import Idealize.ShloMosaic.Lib.Pipeline.ValueKit

@[expose] public section

/-! One row of the expert feed-forward, as sums over the row and the expert's weights; the block of rows that the body
computes is that, row by row. -/

set_option maxRecDepth 16384

noncomputable section

namespace Cert.Proof.Ffn

open Cert.KernelIdeal Cert.KernelIdeal.Gen Idealize.ShloMosaic Idealize.ShloMosaic.TcCoe Idealize.SL.Sem

/-- The gated unit of a gate `a` and a linear part `u`, both clipped. -/
def unit (a u : EReal) : EReal :=
  (min (Ideal.ofBits .f32 0x40E00000#32) (max (Ideal.ofBits .f32 0xC0E00000#32) u) + 1) * min a (Ideal.ofBits .f32 0x40E00000#32)
    * Ideal.logistic (Ideal.ofBits .f32 0x3FD9DB23#32 * min a (Ideal.ofBits .f32 0x40E00000#32))

/-- One entry of a row times a matrix, with a bias. -/
def lin (x : Fin 1024 → EReal) (w : Fin 1024 → Fin 1024 → EReal) (b : Fin 1024 → EReal) (n : Fin 1024) : EReal :=
  (∑ k : Fin 1024, x k * w k n) + b n

/-- One entry of a row of the feed-forward. -/
def row (x : Fin 1024 → EReal) (wg : Fin 1024 → Fin 1024 → EReal) (bg : Fin 1024 → EReal) (wu : Fin 1024 → Fin 1024 → EReal) (bu : Fin 1024 → EReal)
    (wd : Fin 1024 → Fin 1024 → EReal) (bd : Fin 1024 → EReal) (n : Fin 1024) : EReal :=
  lin (fun k => unit (lin x wg bg k) (lin x wu bu k)) wd bd n

theorem pay1_at (w : Vec Ideal S1x1024x1024 .f32) (k n : Fin 1024) : k0_pay1 w (ix2 k n) = w (ix3 0 k n) := by
  pointwise! [k0_pay1]
theorem pay2_at (w : Vec Ideal S1x1024x1024 .f32) (k n : Fin 1024) : k0_pay2 w (ix2 k n) = w (ix3 0 k n) := by
  pointwise! [k0_pay2]
theorem pay3_at (w : Vec Ideal S1x1024x1024 .f32) (k n : Fin 1024) : k0_pay3 w (ix2 k n) = w (ix3 0 k n) := by
  pointwise! [k0_pay3]

theorem pay4_at (x : Vec Ideal S256x1024 .bf16) (wg : Vec Ideal S1024x1024 .bf16) (bg : Vec Ideal S1x1x1024 .f32) (wu : Vec Ideal S1024x1024 .bf16) (bu : Vec Ideal S1x1x1024 .f32)
    (wd : Vec Ideal S1024x1024 .bf16) (bd : Vec Ideal S1x1x1024 .f32) (r : Fin 256) (n : Fin 1024) :
    k0_pay4 x wg bg wu bu wd bd (ix2 r n)
      = row (fun k => x (ix2 r k)) (fun k n => wg (ix2 k n)) (fun n => bg (ix3 0 0 n)) (fun k n => wu (ix2 k n)) (fun n => bu (ix3 0 0 n))
          (fun k n => wd (ix2 k n)) (fun n => bd (ix3 0 0 n)) n := by
  pointwise [k0_pay4]
  unfold row lin unit
  rfl

end Cert.Proof.Ffn

end
-- ==== Proof.FfnIdealBlk.lean ====
module

public import proofs.«01_k».proof.Proof.FfnIdealOut
public import proofs.«01_k».proof.Proof.FfnFn

@[expose] public section

/-! The blocks of the expert feed-forward call, read in the arguments: a block's rows, and the weights of its expert. -/

set_option maxRecDepth 16384

noncomputable section

namespace Cert.Proof.FfnValue

open Cert.KernelIdeal Cert.KernelIdeal.Gen Idealize.ShloMosaic Idealize.ShloMosaic.TcCoe Idealize.SL.Sem Cert.Proof.Ffn

variable (m : (ℓ : Loc nD τ sig) → Buf (Elt Ideal) ℓ) (hR : Rng m) (c : Dev nD)

/-- A point as a block. -/
abbrev pb (t : Fin (cfgM m (oR m hR)).N) : Fin 288 := ⟨t.val, lt_of_lt_of_eq t.isLt (show (cfgM m (oR m hR)).N = 288 from N_0)⟩

/-- A block's expert. -/
def ex (b : Fin 288) : Fin 32 := ⟨(tE m (ixE b)).toNat, hR.1 _⟩

theorem coords_pb (t : Fin (cfgM m (oR m hR)).N) : grid0.coords t 0 = pb m hR t := Fin.ext (coords_val t)

theorem idx0 (t : Fin (cfgM m (oR m hR)).N) : ((cfgM m (oR m hR)).win 0).index t = ![min t.val (nv m - 1), 0] := by
  refine (map0_row m hR (grid0.coords t)).trans ?_
  rw [show (grid0.coords t 0).val = t.val from coords_val t]

theorem idx7 (t : Fin (cfgM m (oR m hR)).N) : ((cfgM m (oR m hR)).win 7).index t = ![min t.val (nv m - 1), 0] := by
  refine (map7_row m hR (grid0.coords t)).trans ?_
  rw [show (grid0.coords t 0).val = t.val from coords_val t]

theorem idxW (t : Fin (cfgM m (oR m hR)).N) : ((cfgM m (oR m hR)).win 1).index t = ![(ex m hR (pb m hR t)).val, 0, 0] := by
  refine (map1_row m (grid0.coords t)).trans ?_
  rw [coords_pb m hR t]
  rfl

theorem idx1 (t : Fin (cfgM m (oR m hR)).N) : ((cfgM m (oR m hR)).win 1).index t = ![(ex m hR (pb m hR t)).val, 0, 0] := idxW m hR t
theorem idx2 (t : Fin (cfgM m (oR m hR)).N) : ((cfgM m (oR m hR)).win 2).index t = ![(ex m hR (pb m hR t)).val, 0, 0] := idxW m hR t
theorem idx3 (t : Fin (cfgM m (oR m hR)).N) : ((cfgM m (oR m hR)).win 3).index t = ![(ex m hR (pb m hR t)).val, 0, 0] := idxW m hR t
theorem idx4 (t : Fin (cfgM m (oR m hR)).N) : ((cfgM m (oR m hR)).win 4).index t = ![(ex m hR (pb m hR t)).val, 0, 0] := idxW m hR t
theorem idx5 (t : Fin (cfgM m (oR m hR)).N) : ((cfgM m (oR m hR)).win 5).index t = ![(ex m hR (pb m hR t)).val, 0, 0] := idxW m hR t
theorem idx6 (t : Fin (cfgM m (oR m hR)).N) : ((cfgM m (oR m hR)).win 6).index t = ![(ex m hR (pb m hR t)).val, 0, 0] := idxW m hR t

/-- The arguments. -/
abbrev a2 : Vec Ideal S73728x1024 .bf16 := V m c main_arg2
abbrev a3 : Vec Ideal S32x1024x1024 .f32 := V m c main_arg3
abbrev a4 : Vec Ideal S32x1x1024 .f32 := V m c main_arg4
abbrev a5 : Vec Ideal S32x1024x1024 .f32 := V m c main_arg5
abbrev a6 : Vec Ideal S32x1x1024 .f32 := V m c main_arg6
abbrev a7 : Vec Ideal S32x1024x1024 .f32 := V m c main_arg7
abbrev a8 : Vec Ideal S32x1x1024 .f32 := V m c main_arg8

theorem blk0_at (t : Fin (cfgM m (oR m hR)).N) (r : Fin 256) (k : Fin 1024) (h : t.val < nv m) :
    (iblk m (oR m hR) c 0 t : Vec Ideal S256x1024 .bf16) (ix2 r k) = a2 m c (ix2 (⟨t.val * 256 + r.val, by have := nv_le hR; omega⟩ : Fin 73728) k) := by
  have hi := idx0 m hR t
  rw [show min t.val (nv m - 1) = t.val by omega] at hi
  refine congrArg (a2 m c) ?_
  blk_ext [hi]

theorem blk1_at (t : Fin (cfgM m (oR m hR)).N) (z : Fin 1) (k n : Fin 1024) :
    (iblk m (oR m hR) c 1 t : Vec Ideal S1x1024x1024 .f32) (ix3 z k n) = a3 m c (ix3 (ex m hR (pb m hR t)) k n) := by
  refine congrArg (a3 m c) ?_
  blk_ext [idx1 m hR t]

theorem blk3_at (t : Fin (cfgM m (oR m hR)).N) (z : Fin 1) (k n : Fin 1024) :
    (iblk m (oR m hR) c 3 t : Vec Ideal S1x1024x1024 .f32) (ix3 z k n) = a5 m c (ix3 (ex m hR (pb m hR t)) k n) := by
  refine congrArg (a5 m c) ?_
  blk_ext [idx3 m hR t]

theorem blk5_at (t : Fin (cfgM m (oR m hR)).N) (z : Fin 1) (k n : Fin 1024) :
    (iblk m (oR m hR) c 5 t : Vec Ideal S1x1024x1024 .f32) (ix3 z k n) = a7 m c (ix3 (ex m hR (pb m hR t)) k n) := by
  refine congrArg (a7 m c) ?_
  blk_ext [idx5 m hR t]

theorem blk2_at (t : Fin (cfgM m (oR m hR)).N) (z k : Fin 1) (n : Fin 1024) :
    (iblk m (oR m hR) c 2 t : Vec Ideal S1x1x1024 .f32) (ix3 z k n) = a4 m c (ix3 (ex m hR (pb m hR t)) k n) := by
  refine congrArg (a4 m c) ?_
  blk_ext [idx2 m hR t]

theorem blk4_at (t : Fin (cfgM m (oR m hR)).N) (z k : Fin 1) (n : Fin 1024) :
    (iblk m (oR m hR) c 4 t : Vec Ideal S1x1x1024 .f32) (ix3 z k n) = a6 m c (ix3 (ex m hR (pb m hR t)) k n) := by
  refine congrArg (a6 m c) ?_
  blk_ext [idx4 m hR t]

theorem blk6_at (t : Fin (cfgM m (oR m hR)).N) (z k : Fin 1) (n : Fin 1024) :
    (iblk m (oR m hR) c 6 t : Vec Ideal S1x1x1024 .f32) (ix3 z k n) = a8 m c (ix3 (ex m hR (pb m hR t)) k n) := by
  refine congrArg (a8 m c) ?_
  blk_ext [idx6 m hR t]

/-- An expert's weight as a matrix. -/
def mat (a : Vec Ideal S32x1024x1024 .f32) (e : Fin 32) : Vec Ideal S1024x1024 .bf16 := fun i => a (ix3 e (i 0) (i 1))

theorem mat_at (a : Vec Ideal S32x1024x1024 .f32) (e : Fin 32) (k n : Fin 1024) : mat a e (ix2 k n) = a (ix3 e k n) := rfl

theorem pay1_blk (t : Fin (cfgM m (oR m hR)).N) : k0_pay1 (F := Ideal) (iblk m (oR m hR) c 1 t) = mat (a3 m c) (ex m hR (pb m hR t)) := by
  funext y; idx_vars y
  exact (pay1_at _ y0 y1).trans (blk1_at m hR c t 0 y0 y1)
theorem pay2_blk (t : Fin (cfgM m (oR m hR)).N) : k0_pay2 (F := Ideal) (iblk m (oR m hR) c 3 t) = mat (a5 m c) (ex m hR (pb m hR t)) := by
  funext y; idx_vars y
  exact (pay2_at _ y0 y1).trans (blk3_at m hR c t 0 y0 y1)
theorem pay3_blk (t : Fin (cfgM m (oR m hR)).N) : k0_pay3 (F := Ideal) (iblk m (oR m hR) c 5 t) = mat (a7 m c) (ex m hR (pb m hR t)) := by
  funext y; idx_vars y
  exact (pay3_at _ y0 y1).trans (blk5_at m hR c t 0 y0 y1)

/-- The rows computed at a point. -/
def rows (t : Fin (cfgM m (oR m hR)).N) : Vec Ideal S256x1024 .f32 :=
  k0_pay4 (iblk m (oR m hR) c 0 t) (mat (a3 m c) (ex m hR (pb m hR t))) (iblk m (oR m hR) c 2 t) (mat (a5 m c) (ex m hR (pb m hR t)))
    (iblk m (oR m hR) c 4 t) (mat (a7 m c) (ex m hR (pb m hR t))) (iblk m (oR m hR) c 6 t)

/-- An entry of a row with the weights of a block's expert. -/
def rowOf (b : Fin 288) (z : Fin 73728) (n : Fin 1024) : EReal :=
  row (fun k => a2 m c (ix2 z k)) (fun k n => a3 m c (ix3 (ex m hR b) k n)) (fun n => a4 m c (ix3 (ex m hR b) 0 n))
    (fun k n => a5 m c (ix3 (ex m hR b) k n)) (fun n => a6 m c (ix3 (ex m hR b) 0 n)) (fun k n => a7 m c (ix3 (ex m hR b) k n)) (fun n => a8 m c (ix3 (ex m hR b) 0 n)) n

/-- The array the run leaves in the rows of the blocks in use. -/
def G : Vec Ideal S73728x1024 .f32 := fun i =>
  rowOf m hR c ⟨(i 0).val / 256, by have : (i 0).val < 73728 := (i 0).isLt; omega⟩ (i 0) (i 1)

theorem G_at (b : Fin 288) (r : Fin 256) (n : Fin 1024) : G m hR c (ix2 (⟨b.val * 256 + r.val, by omega⟩ : Fin 73728) n)
    = rowOf m hR c b ⟨b.val * 256 + r.val, by omega⟩ n := by
  have e : (⟨(b.val * 256 + r.val) / 256, by omega⟩ : Fin 288) = b := Fin.ext (by show (b.val * 256 + r.val) / 256 = b.val; omega)
  exact congrArg (fun b' => rowOf m hR c b' ⟨b.val * 256 + r.val, by omega⟩ n) e

theorem row_congr {x x' : Fin 1024 → EReal} {wg wg' : Fin 1024 → Fin 1024 → EReal} {bg bg' : Fin 1024 → EReal} {wu wu' : Fin 1024 → Fin 1024 → EReal} {bu bu' : Fin 1024 → EReal}
    {wd wd' : Fin 1024 → Fin 1024 → EReal} {bd bd' : Fin 1024 → EReal} (h0 : x = x') (h1 : wg = wg') (h2 : bg = bg') (h3 : wu = wu') (h4 : bu = bu') (h5 : wd = wd') (h6 : bd = bd')
    (n : Fin 1024) : row x wg bg wu bu wd bd n = row x' wg' bg' wu' bu' wd' bd' n := by
  subst h0 h1 h2 h3 h4 h5 h6; rfl

theorem rows_at (t : Fin (cfgM m (oR m hR)).N) (h : t.val < nv m) (r : Fin 256) (n : Fin 1024) :
    rows m hR c t (ix2 r n) = G m hR c (ix2 (⟨t.val * 256 + r.val, by have := nv_le hR; omega⟩ : Fin 73728) n) := by
  refine Eq.trans ?_ (G_at m hR c (pb m hR t) r n).symm
  unfold rows
  refine (pay4_at _ _ _ _ _ _ _ r n).trans ?_
  exact row_congr (funext fun k => blk0_at m hR c t r k h) rfl (funext fun n => blk2_at m hR c t 0 0 n) rfl (funext fun n => blk4_at m hR c t 0 0 n) rfl
    (funext fun n => blk6_at m hR c t 0 0 n) n

/-- A block in use whose weights are not narrowed anew has the expert of the block before. -/
theorem same_expert (t : Fin (cfgM m (oR m hR)).N) (h : t.val < nv m) (hc : ¬condF c (grid0.coords t) (tbl m 0) (tbl m 1)) :
    t.val ≠ 0 ∧ ex m hR (pb m hR t) = ex m hR ⟨t.val - 1, by have := nv_le hR; omega⟩ := by
  rw [condF_iff m hR] at hc
  have e : (grid0.coords t 0).val = t.val := coords_val t
  have hc' := fun h' => hc ⟨by omega, h'⟩
  refine ⟨fun h0 => hc' (.inl (by omega)), ?_⟩
  have h2 := Classical.not_not.mp fun hn => hc' (.inr hn)
  have key : tE m (ixE (pb m hR t)) = tE m (ixE ⟨t.val - 1, by have := nv_le hR; omega⟩) := by
    refine (congrArg (fun b => tE m (ixE b)) (coords_pb m hR t)).symm.trans (h2.trans ?_)
    refine congrArg (fun b => tE m (ixE b)) (Fin.ext ?_)
    show (grid0.coords t 0).val - 1 = t.val - 1
    rw [e]
  exact Fin.ext (show (tE m (ixE (pb m hR t))).toNat = (tE m (ixE ⟨t.val - 1, by have := nv_le hR; omega⟩)).toNat from congrArg BitVec.toNat key)

end Cert.Proof.FfnValue

end
-- ==== Proof.FfnIdealStep.lean ====
module

public import proofs.«01_k».proof.Proof.FfnIdealBlk
public import proofs.«01_k».proof.Proof.FfnFn

@[expose] public section

/-! What each case of the body leaves, in the arguments. -/

set_option maxRecDepth 16384

noncomputable section

namespace Cert.Proof.FfnValue

open Cert.KernelIdeal Cert.KernelIdeal.Gen Idealize.ShloMosaic Idealize.ShloMosaic.TcCoe Idealize.SL.Sem Cert.Proof.Ffn

variable (m : (ℓ : Loc nD τ sig) → Buf (Elt Ideal) ℓ) (hR : Rng m) (c : Dev nD)

theorem pair_eq {α β : Type} {a a' : α} {b b' : β} (h : a = a') (h' : b = b') : (a, b) = (a', b') := by
  subst h h'; rfl

theorem pay4_congr (x : Vec Ideal S256x1024 .bf16) {wg wg' : Vec Ideal S1024x1024 .bf16} (bg : Vec Ideal S1x1x1024 .f32) {wu wu' : Vec Ideal S1024x1024 .bf16} (bu : Vec Ideal S1x1x1024 .f32)
    {wd wd' : Vec Ideal S1024x1024 .bf16} (bd : Vec Ideal S1x1x1024 .f32) (h1 : wg = wg') (h2 : wu = wu') (h3 : wd = wd') :
    k0_pay4 x wg bg wu bu wd bd = k0_pay4 x wg' bg wu' bu wd' bd := by
  subst h1 h2 h3; rfl

set_option maxHeartbeats 1000000 in
theorem stepA_eq (t : Fin (cfgM m (oR m hR)).N) (hc : condF c (grid0.coords t) (tbl m 0) (tbl m 1)) :
    stepA m hR c t hc = (rows m hR c t, mat (a3 m c) (ex m hR (pb m hR t)), mat (a5 m c) (ex m hR (pb m hR t)), mat (a7 m c) (ex m hR (pb m hR t))) := by
  unfold stepA
  refine pair_eq ((out0_A_7_eq c (grid0.coords t) (ms0_0 m (oR m hR) t) (hs0_0 m (oR m hR) t) (ms0_1 m (oR m hR) t) (hs0_1 m (oR m hR) t) (ms0_2 m (oR m hR) t) (hs0_2 m (oR m hR) t) (ms0_3 m (oR m hR) t) (hs0_3 m (oR m hR) t) (ms0_4 m (oR m hR) t) (hs0_4 m (oR m hR) t) (ms0_5 m (oR m hR) t) (hs0_5 m (oR m hR) t) (ms0_6 m (oR m hR) t) (hs0_6 m (oR m hR) t) (ms0_7 m (oR m hR) t) (hs0_7 m (oR m hR) t) scM0_0 (Memref.isWhole_whole _) scM0_1 (Memref.isWhole_whole _) scM0_2 (Memref.isWhole_whole _) (iblk m (oR m hR) c 0 t) (iblk m (oR m hR) c 1 t) (iblk m (oR m hR) c 2 t) (iblk m (oR m hR) c 3 t) (iblk m (oR m hR) c 4 t) (iblk m (oR m hR) c 5 t) (iblk m (oR m hR) c 6 t) (tbl m 0) (tbl m 1) hc (condV_of_condF m hR c _ hc)).trans ?_)
    (pair_eq ((sout0_A_0_eq c (grid0.coords t) (ms0_0 m (oR m hR) t) (hs0_0 m (oR m hR) t) (ms0_1 m (oR m hR) t) (hs0_1 m (oR m hR) t) (ms0_2 m (oR m hR) t) (hs0_2 m (oR m hR) t) (ms0_3 m (oR m hR) t) (hs0_3 m (oR m hR) t) (ms0_4 m (oR m hR) t) (hs0_4 m (oR m hR) t) (ms0_5 m (oR m hR) t) (hs0_5 m (oR m hR) t) (ms0_6 m (oR m hR) t) (hs0_6 m (oR m hR) t) (ms0_7 m (oR m hR) t) (hs0_7 m (oR m hR) t) scM0_0 (Memref.isWhole_whole _) scM0_1 (Memref.isWhole_whole _) scM0_2 (Memref.isWhole_whole _) (iblk m (oR m hR) c 0 t) (iblk m (oR m hR) c 1 t) (iblk m (oR m hR) c 2 t) (iblk m (oR m hR) c 3 t) (iblk m (oR m hR) c 4 t) (iblk m (oR m hR) c 5 t) (iblk m (oR m hR) c 6 t) (tbl m 0) (tbl m 1) hc (condV_of_condF m hR c _ hc)).trans (pay1_blk m hR c t))
      (pair_eq ((sout0_A_1_eq c (grid0.coords t) (ms0_0 m (oR m hR) t) (hs0_0 m (oR m hR) t) (ms0_1 m (oR m hR) t) (hs0_1 m (oR m hR) t) (ms0_2 m (oR m hR) t) (hs0_2 m (oR m hR) t) (ms0_3 m (oR m hR) t) (hs0_3 m (oR m hR) t) (ms0_4 m (oR m hR) t) (hs0_4 m (oR m hR) t) (ms0_5 m (oR m hR) t) (hs0_5 m (oR m hR) t) (ms0_6 m (oR m hR) t) (hs0_6 m (oR m hR) t) (ms0_7 m (oR m hR) t) (hs0_7 m (oR m hR) t) scM0_0 (Memref.isWhole_whole _) scM0_1 (Memref.isWhole_whole _) scM0_2 (Memref.isWhole_whole _) (iblk m (oR m hR) c 0 t) (iblk m (oR m hR) c 1 t) (iblk m (oR m hR) c 2 t) (iblk m (oR m hR) c 3 t) (iblk m (oR m hR) c 4 t) (iblk m (oR m hR) c 5 t) (iblk m (oR m hR) c 6 t) (tbl m 0) (tbl m 1) hc (condV_of_condF m hR c _ hc)).trans (pay2_blk m hR c t))
        ((sout0_A_2_eq c (grid0.coords t) (ms0_0 m (oR m hR) t) (hs0_0 m (oR m hR) t) (ms0_1 m (oR m hR) t) (hs0_1 m (oR m hR) t) (ms0_2 m (oR m hR) t) (hs0_2 m (oR m hR) t) (ms0_3 m (oR m hR) t) (hs0_3 m (oR m hR) t) (ms0_4 m (oR m hR) t) (hs0_4 m (oR m hR) t) (ms0_5 m (oR m hR) t) (hs0_5 m (oR m hR) t) (ms0_6 m (oR m hR) t) (hs0_6 m (oR m hR) t) (ms0_7 m (oR m hR) t) (hs0_7 m (oR m hR) t) scM0_0 (Memref.isWhole_whole _) scM0_1 (Memref.isWhole_whole _) scM0_2 (Memref.isWhole_whole _) (iblk m (oR m hR) c 0 t) (iblk m (oR m hR) c 1 t) (iblk m (oR m hR) c 2 t) (iblk m (oR m hR) c 3 t) (iblk m (oR m hR) c 4 t) (iblk m (oR m hR) c 5 t) (iblk m (oR m hR) c 6 t) (tbl m 0) (tbl m 1) hc (condV_of_condF m hR c _ hc)).trans (pay3_blk m hR c t))))
  exact pay4_congr _ _ _ _ (pay1_blk m hR c t) (pay2_blk m hR c t) (pay3_blk m hR c t)

set_option maxHeartbeats 1000000 in
theorem stepB_eq (t : Fin (cfgM m (oR m hR)).N) (hc : ¬condF c (grid0.coords t) (tbl m 0) (tbl m 1)) (hv : condV c (grid0.coords t) (tbl m 1))
    (p : Vec Ideal S256x1024 .f32 × Vec Ideal S1024x1024 .bf16 × Vec Ideal S1024x1024 .bf16 × Vec Ideal S1024x1024 .bf16)
    (hp : p.2 = (mat (a3 m c) (ex m hR (pb m hR t)), mat (a5 m c) (ex m hR (pb m hR t)), mat (a7 m c) (ex m hR (pb m hR t)))) :
    stepB m hR c t hc hv p = (rows m hR c t, mat (a3 m c) (ex m hR (pb m hR t)), mat (a5 m c) (ex m hR (pb m hR t)), mat (a7 m c) (ex m hR (pb m hR t))) := by
  unfold stepB
  refine pair_eq ((out0_B_7_eq c (grid0.coords t) (ms0_0 m (oR m hR) t) (hs0_0 m (oR m hR) t) (ms0_1 m (oR m hR) t) (hs0_1 m (oR m hR) t) (ms0_2 m (oR m hR) t) (hs0_2 m (oR m hR) t) (ms0_3 m (oR m hR) t) (hs0_3 m (oR m hR) t) (ms0_4 m (oR m hR) t) (hs0_4 m (oR m hR) t) (ms0_5 m (oR m hR) t) (hs0_5 m (oR m hR) t) (ms0_6 m (oR m hR) t) (hs0_6 m (oR m hR) t) (ms0_7 m (oR m hR) t) (hs0_7 m (oR m hR) t) scM0_0 (Memref.isWhole_whole _) scM0_1 (Memref.isWhole_whole _) scM0_2 (Memref.isWhole_whole _) (iblk m (oR m hR) c 0 t) (iblk m (oR m hR) c 1 t) (iblk m (oR m hR) c 2 t) (iblk m (oR m hR) c 3 t) (iblk m (oR m hR) c 4 t) (iblk m (oR m hR) c 5 t) (iblk m (oR m hR) c 6 t) (tbl m 0) (tbl m 1) hc hv _ _ _).trans ?_) hp
  exact pay4_congr _ _ _ _ (congrArg Prod.fst hp) (congrArg (fun q => q.2.1) hp) (congrArg (fun q => q.2.2) hp)

end Cert.Proof.FfnValue

end
-- ==== Proof.FfnIdealValue.lean ====
module

public import proofs.«01_k».proof.Proof.FfnIdealStep
public import proofs.«01_k».proof.Proof.FfnFn

@[expose] public section

/-! What the expert feed-forward call leaves in the rows of the blocks in use: each row's feed-forward with the weights of
its block's expert, whether the weights were narrowed at that block or at an earlier one of the same expert. -/

set_option maxRecDepth 16384

noncomputable section

namespace Cert.Proof.FfnValue

open Cert.KernelIdeal Cert.KernelIdeal.Gen Idealize.ShloMosaic Idealize.ShloMosaic.TcCoe Idealize.SL.Sem Cert.Proof.Ffn

variable (m : (ℓ : Loc nD τ sig) → Buf (Elt Ideal) ℓ) (hR : Rng m) (c : Dev nD)

/-- At a block in use: its rows, and its expert's narrowed weights. -/
theorem outs_in : ∀ (n : ℕ) (hn : n < (cfgM m (oR m hR)).N), n < nv m →
    outsAt0 m hR c n hn = (rows m hR c ⟨n, hn⟩, mat (a3 m c) (ex m hR (pb m hR ⟨n, hn⟩)), mat (a5 m c) (ex m hR (pb m hR ⟨n, hn⟩)), mat (a7 m c) (ex m hR (pb m hR ⟨n, hn⟩))) := by
  intro n
  induction n with
  | zero =>
    intro hn h
    exact (outsAt0_A m hR c ⟨0, hn⟩ (condF_zero m hR c _ rfl)).trans (stepA_eq m hR c ⟨0, hn⟩ (condF_zero m hR c _ rfl))
  | succ n ih =>
    intro hn h
    by_cases hc : condF c (grid0.coords ⟨n + 1, hn⟩) (tbl m 0) (tbl m 1)
    · exact (outsAt0_A m hR c ⟨n + 1, hn⟩ hc).trans (stepA_eq m hR c ⟨n + 1, hn⟩ hc)
    · have hv : condV c (grid0.coords ⟨n + 1, hn⟩) (tbl m 1) := by
        rw [condV_iff m hR, show (grid0.coords ⟨n + 1, hn⟩ 0).val = n + 1 from coords_val ⟨n + 1, hn⟩]; exact h
      have hi := congrArg Prod.snd (ih (Nat.lt_of_succ_lt hn) (by omega))
      have he := (same_expert m hR c ⟨n + 1, hn⟩ h hc).2
      have he' : ex m hR (pb m hR ⟨n, Nat.lt_of_succ_lt hn⟩) = ex m hR (pb m hR ⟨n + 1, hn⟩) := he.symm
      rw [he'] at hi
      exact (outsAt0_B m hR c ⟨n + 1, hn⟩ hc hv).trans (stepB_eq m hR c ⟨n + 1, hn⟩ hc hv _ hi)

/-- The output's buffer at any point: the rows of the point's block, or of the last block in use. -/
theorem outs_all : ∀ (n : ℕ) (hn : n < (cfgM m (oR m hR)).N),
    (outsAt0 m hR c n hn).1 = rows m hR c ⟨min n (nv m - 1), Nat.lt_of_le_of_lt (Nat.min_le_left _ _) hn⟩ := by
  intro n
  induction n with
  | zero =>
    intro hn
    have hp := nv_pos hR
    exact (congrArg Prod.fst (outs_in m hR c 0 hn (by omega))).trans (congrArg (rows m hR c) (Fin.ext (by show 0 = min 0 _; omega)))
  | succ n ih =>
    intro hn
    have hp := nv_pos hR
    by_cases h : n + 1 < nv m
    · exact (congrArg Prod.fst (outs_in m hR c (n + 1) hn h)).trans (congrArg (rows m hR c) (Fin.ext (by show n + 1 = min (n + 1) _; omega)))
    · have hv : ¬condV c (grid0.coords ⟨n + 1, hn⟩) (tbl m 1) := by
        rw [condV_iff m hR, show (grid0.coords ⟨n + 1, hn⟩ 0).val = n + 1 from coords_val ⟨n + 1, hn⟩]; exact h
      refine (congrArg Prod.fst (outsAt0_C m hR c ⟨n + 1, hn⟩ (fun hc => hv (condV_of_condF m hR c _ hc)) hv)).trans ?_
      exact (ih (Nat.lt_of_succ_lt hn)).trans (congrArg (rows m hR c) (Fin.ext (by show min n _ = min (n + 1) _; omega)))

/-- Where the output's block at a point lies. -/
theorem emb7 (t : Fin (cfgM m (oR m hR)).N) (r : Fin 256) (n : Fin 1024) :
    (((cfgM m (oR m hR)).win 7).blk t).view.emb (ix2 r n) = (ix2 (⟨min t.val (nv m - 1) * 256 + r.val, by have := nv_le hR; have := nv_pos hR; omega⟩ : Fin 73728) n : S73728x1024.Idx) := by
  blk_ext [idx7 m hR t]

/-- What a point leaves is the array's block at it. -/
theorem point (t : Fin (cfgM m (oR m hR)).N) (y : S256x1024.Idx) :
    (outsAt0 m hR c t.val t.isLt).1 y = G m hR c ((((cfgM m (oR m hR)).win 7).blk t).view.emb y) := by
  have hp := nv_pos hR
  idx_vars y
  refine (congrFun (outs_all m hR c t.val t.isLt) (ix2 y0 y1)).trans ?_
  refine Eq.trans ?_ (congrArg (G m hR c) (emb7 m hR t y0 y1)).symm
  exact rows_at m hR c ⟨min t.val (nv m - 1), _⟩ (by show min t.val _ < _; omega) y0 y1

/-- The array after the run, in the rows of a block in use. -/
theorem final (b : Fin 288) (hb : b.val < nv m) (r : Fin 256) (n : Fin 1024) :
    ((dats m hR 0 c).arrAt 7 (cfgM m (oR m hR)).N : Vec Ideal S73728x1024 .f32) (ix2 (⟨b.val * 256 + r.val, by omega⟩ : Fin 73728) n)
      = G m hR c (ix2 (⟨b.val * 256 + r.val, by omega⟩ : Fin 73728) n) := by
  have hN : (cfgM m (oR m hR)).N = 288 := N_0
  have hle := nv_le hR
  have hp := nv_pos hR
  obtain ⟨t, ht, hf⟩ : ∃ t : Fin (cfgM m (oR m hR)).N, min t.val (nv m - 1) = b.val ∧ ((cfgM m (oR m hR)).win 7).flush t = true := by
    by_cases h : b.val + 1 < nv m
    · exact ⟨⟨b.val, by omega⟩, by show min b.val _ = _; omega, flush7_true m hR (oR m hR) ⟨b.val, by omega⟩ (.inl h)⟩
    · exact ⟨⟨287, by omega⟩, by show min 287 _ = _; omega, flush7_true m hR (oR m hR) ⟨287, by omega⟩ (.inr rfl)⟩
  have e : (((cfgM m (oR m hR)).win 7).blk t).view.emb (ix2 r n) = (ix2 (⟨b.val * 256 + r.val, by omega⟩ : Fin 73728) n : S73728x1024.Idx) := by
    refine (emb7 m hR t r n).trans ?_
    refine congrArg (fun z : Fin 73728 => (ix2 z n : S73728x1024.Idx)) (Fin.ext ?_)
    show min t.val (nv m - 1) * 256 + r.val = b.val * 256 + r.val
    rw [ht]
  refine (dats m hR 0 c).arrAt_forall_of_flushed 7 (fun i v => v = G m hR c i) (fun t' _ y => ?_) (cfgM m (oR m hR)).N t _ t.isLt hf ?_
  · exact (congrFun (after0_7 m hR c t') y).trans (point m hR c t' y)
  · rw [← e]
    exact (((cfgM m (oR m hR)).win 7).blk t).view.emb_mem_set _

end Cert.Proof.FfnValue

end
-- ==== Proof.FfnRef.lean ====
module

public import proofs.«01_k».proof.Proof.Gen.ReferenceIdeal.Read
public import proofs.«01_k».proof.Proof.FfnFn
public import Idealize.ShloMosaic.Lib.IdealHost

@[expose] public section

/-! The reference of the expert feed-forward, read at one entry: the row's block names an expert, and the entry is
the feed-forward of that row with that expert's weights. -/

set_option maxRecDepth 16384

noncomputable section

namespace Cert.Proof.FfnRef

open Cert.ReferenceIdeal Cert.ReferenceIdeal.Gen Cert.ReferenceIdeal.Read Idealize.ShloMosaic Idealize.ShloMosaic.TcCoe Idealize.SL.Sem Cert.Proof.Ffn

/-- A whole slab of the operand taken by its index, read at an entry. -/
theorem take_w (x : (⟨S32x1024x1024, .f32⟩ : BufTy).Contents (Elt Ideal)) (idx : IVec S288x1 32) (b : Fin 288) (k n : Fin 1024) (e : Fin 32)
    (he : (idx (ix2 b 0)).toInt.toNat = e.val) :
    Host.gather gather_S32x1024x1024_S288x1_S288x1024x1024_12_0_n_n_0_1_110241024 x idx (ix3 b k n) = x (ix3 e k n) := by
  unfold Host.gather
  congr 1
  funext a
  refine Fin.ext ?_
  generalize hd : gather_S32x1024x1024_S288x1_S288x1024x1024_12_0_n_n_0_1_110241024 = d
  show d.start _ idx a + d.batchCoord _ a + d.offCoord _ a = _
  subst hd
  rw [GatherDims.batchCoord_eq_zero _ _ _ List.not_mem_nil]
  match a with
  | ⟨0, _⟩ =>
    rw [GatherDims.offCoord_eq_zero _ _ _ (fun h => ((GatherDims.mem_sKept _ _).mp h).1 (List.mem_singleton.mpr rfl))]
    simp only [Nat.add_zero]
    unfold GatherDims.start
    refine (dif_pos (List.mem_singleton.mpr rfl)).trans ?_
    have hsi : gather_S32x1024x1024_S288x1_S288x1024x1024_12_0_n_n_0_1_110241024.siIdx (ix3 b k n) ⟨List.idxOf (0 : Fin 3) gather_S32x1024x1024_S288x1_S288x1024x1024_12_0_n_n_0_1_110241024.startIndexMap,
        List.idxOf_lt_length_iff.2 (List.mem_singleton.mpr rfl)⟩ = ix2 b 0 := by
      funext b'; refine Fin.ext ?_
      match b' with
      | ⟨0, _⟩ => rfl
      | ⟨1, _⟩ => rfl
    have h2 : (idx (gather_S32x1024x1024_S288x1_S288x1024x1024_12_0_n_n_0_1_110241024.siIdx (ix3 b k n) ⟨List.idxOf (0 : Fin 3) gather_S32x1024x1024_S288x1_S288x1024x1024_12_0_n_n_0_1_110241024.startIndexMap,
        List.idxOf_lt_length_iff.2 (List.mem_singleton.mpr rfl)⟩)).toInt.toNat = e.val := by rw [hsi]; exact he
    refine (congrArg (fun z => min z (32 - 1)) h2).trans ?_
    show min e.val 31 = e.val
    omega
  | ⟨1, _⟩ =>
    rw [show gather_S32x1024x1024_S288x1_S288x1024x1024_12_0_n_n_0_1_110241024.start (ix3 b k n) idx ⟨1, by decide⟩ = 0 from by
      unfold GatherDims.start; exact dif_neg (show ¬ (1 : Fin 3) ∈ [(0 : Fin 3)] by decide)]
    show 0 + 0 + gather_S32x1024x1024_S288x1_S288x1024x1024_12_0_n_n_0_1_110241024.offCoord (ix3 b k n) ⟨1, by decide⟩ = k.val
    unfold GatherDims.offCoord
    rw [Nat.zero_add]
    refine (dif_pos ((GatherDims.mem_sKept gather_S32x1024x1024_S288x1_S288x1024x1024_12_0_n_n_0_1_110241024 _).mpr ⟨show ¬ (1 : Fin 3) ∈ [(0 : Fin 3)] by decide, List.not_mem_nil⟩)).trans ?_
    rfl
  | ⟨2, _⟩ =>
    rw [show gather_S32x1024x1024_S288x1_S288x1024x1024_12_0_n_n_0_1_110241024.start (ix3 b k n) idx ⟨2, by decide⟩ = 0 from by
      unfold GatherDims.start; exact dif_neg (show ¬ (2 : Fin 3) ∈ [(0 : Fin 3)] by decide)]
    show 0 + 0 + gather_S32x1024x1024_S288x1_S288x1024x1024_12_0_n_n_0_1_110241024.offCoord (ix3 b k n) ⟨2, by decide⟩ = n.val
    unfold GatherDims.offCoord
    rw [Nat.zero_add]
    refine (dif_pos ((GatherDims.mem_sKept gather_S32x1024x1024_S288x1_S288x1024x1024_12_0_n_n_0_1_110241024 _).mpr ⟨show ¬ (2 : Fin 3) ∈ [(0 : Fin 3)] by decide, List.not_mem_nil⟩)).trans ?_
    rfl

/-- A bias row of the operand taken by its index, read at an entry. -/
theorem take_b (x : (⟨S32x1x1024, .f32⟩ : BufTy).Contents (Elt Ideal)) (idx : IVec S288x1 32) (b : Fin 288) (k : Fin 1) (n : Fin 1024) (e : Fin 32)
    (he : (idx (ix2 b 0)).toInt.toNat = e.val) :
    Host.gather gather_S32x1x1024_S288x1_S288x1x1024_12_0_n_n_0_1_111024 x idx (ix3 b k n) = x (ix3 e k n) := by
  unfold Host.gather
  congr 1
  funext a
  refine Fin.ext ?_
  generalize hd : gather_S32x1x1024_S288x1_S288x1x1024_12_0_n_n_0_1_111024 = d
  show d.start _ idx a + d.batchCoord _ a + d.offCoord _ a = _
  subst hd
  rw [GatherDims.batchCoord_eq_zero _ _ _ List.not_mem_nil]
  match a with
  | ⟨0, _⟩ =>
    rw [GatherDims.offCoord_eq_zero _ _ _ (fun h => ((GatherDims.mem_sKept _ _).mp h).1 (List.mem_singleton.mpr rfl))]
    simp only [Nat.add_zero]
    unfold GatherDims.start
    refine (dif_pos (List.mem_singleton.mpr rfl)).trans ?_
    have hsi : gather_S32x1x1024_S288x1_S288x1x1024_12_0_n_n_0_1_111024.siIdx (ix3 b k n) ⟨List.idxOf (0 : Fin 3) gather_S32x1x1024_S288x1_S288x1x1024_12_0_n_n_0_1_111024.startIndexMap,
        List.idxOf_lt_length_iff.2 (List.mem_singleton.mpr rfl)⟩ = ix2 b 0 := by
      funext b'; refine Fin.ext ?_
      match b' with
      | ⟨0, _⟩ => rfl
      | ⟨1, _⟩ => rfl
    have h2 : (idx (gather_S32x1x1024_S288x1_S288x1x1024_12_0_n_n_0_1_111024.siIdx (ix3 b k n) ⟨List.idxOf (0 : Fin 3) gather_S32x1x1024_S288x1_S288x1x1024_12_0_n_n_0_1_111024.startIndexMap,
        List.idxOf_lt_length_iff.2 (List.mem_singleton.mpr rfl)⟩)).toInt.toNat = e.val := by rw [hsi]; exact he
    refine (congrArg (fun z => min z (32 - 1)) h2).trans ?_
    show min e.val 31 = e.val
    omega
  | ⟨1, _⟩ =>
    rw [show gather_S32x1x1024_S288x1_S288x1x1024_12_0_n_n_0_1_111024.start (ix3 b k n) idx ⟨1, by decide⟩ = 0 from by
      unfold GatherDims.start; exact dif_neg (show ¬ (1 : Fin 3) ∈ [(0 : Fin 3)] by decide)]
    show 0 + 0 + gather_S32x1x1024_S288x1_S288x1x1024_12_0_n_n_0_1_111024.offCoord (ix3 b k n) ⟨1, by decide⟩ = k.val
    unfold GatherDims.offCoord
    rw [Nat.zero_add]
    refine (dif_pos ((GatherDims.mem_sKept gather_S32x1x1024_S288x1_S288x1x1024_12_0_n_n_0_1_111024 _).mpr ⟨show ¬ (1 : Fin 3) ∈ [(0 : Fin 3)] by decide, List.not_mem_nil⟩)).trans ?_
    rfl
  | ⟨2, _⟩ =>
    rw [show gather_S32x1x1024_S288x1_S288x1x1024_12_0_n_n_0_1_111024.start (ix3 b k n) idx ⟨2, by decide⟩ = 0 from by
      unfold GatherDims.start; exact dif_neg (show ¬ (2 : Fin 3) ∈ [(0 : Fin 3)] by decide)]
    show 0 + 0 + gather_S32x1x1024_S288x1_S288x1x1024_12_0_n_n_0_1_111024.offCoord (ix3 b k n) ⟨2, by decide⟩ = n.val
    unfold GatherDims.offCoord
    rw [Nat.zero_add]
    refine (dif_pos ((GatherDims.mem_sKept gather_S32x1x1024_S288x1_S288x1x1024_12_0_n_n_0_1_111024 _).mpr ⟨show ¬ (2 : Fin 3) ∈ [(0 : Fin 3)] by decide, List.not_mem_nil⟩)).trans ?_
    rfl

/-- The index the reference takes by: the block's expert, an expert counted from the end being none here. -/
theorem wrap (w : BitVec 32) (h : w.toNat < 32) : (Scalar.select (IntOp.cmpi .slt w 0#32) (IntOp.addi w 32#32) w).toInt.toNat = w.toNat := by
  have key : ∀ n : Fin 32, (Scalar.select (IntOp.cmpi .slt (BitVec.ofNat 32 n.val) 0#32) (IntOp.addi (BitVec.ofNat 32 n.val) 32#32) (BitVec.ofNat 32 n.val)).toInt.toNat = n.val := by
    decide +kernel
  have e : BitVec.ofNat 32 w.toNat = w := by apply BitVec.eq_of_toNat_eq; rw [BitVec.toNat_ofNat]; omega
  have := key ⟨w.toNat, h⟩
  simp only [e] at this
  exact this

variable (x0 : (⟨S288, .i32⟩ : BufTy).Contents (Elt Ideal)) (x2 : (⟨S73728x1024, .bf16⟩ : BufTy).Contents (Elt Ideal))
  (x3 : (⟨S32x1024x1024, .f32⟩ : BufTy).Contents (Elt Ideal)) (x4 : (⟨S32x1x1024, .f32⟩ : BufTy).Contents (Elt Ideal))
  (x5 : (⟨S32x1024x1024, .f32⟩ : BufTy).Contents (Elt Ideal)) (x6 : (⟨S32x1x1024, .f32⟩ : BufTy).Contents (Elt Ideal))
  (x7 : (⟨S32x1024x1024, .f32⟩ : BufTy).Contents (Elt Ideal)) (x8 : (⟨S32x1x1024, .f32⟩ : BufTy).Contents (Elt Ideal))

/-- Row `r` of block `b`. -/
abbrev at2 (b : Fin 288) (r : Fin 256) : Fin 73728 := ⟨b.val * 256 + r.val, by omega⟩

theorem v1_at (b : Fin 288) (r : Fin 256) (k : Fin 1024) : val_main_v1 (F := Ideal) x2 (ix3 b r k) = x2 (ix2 (at2 b r) k) := by
  rw [val_main_v1_apply]
  show x2 (idx_main_v1 (ix3 b r k)) = _
  congr 1; funext a; apply Fin.ext
  match a with
  | ⟨0, _⟩ => show ((b.val * 256 + r.val) * 1024 + k.val) / 1024 = b.val * 256 + r.val; omega
  | ⟨1, _⟩ => show ((b.val * 256 + r.val) * 1024 + k.val) % 1024 = k.val; omega

variable (b : Fin 288) (e : Fin 32) (he : (x0 (ix1 b)).toNat = e.val)
include he

theorem idx_at : (Scalar.select (IntOp.cmpi .slt (x0 (ix1 b)) 0#32) (IntOp.addi (x0 (ix1 b)) 32#32) (x0 (ix1 b))).toInt.toNat = e.val :=
  (wrap _ (by rw [he]; exact e.isLt)).trans he

theorem v9_at (r : Fin 256) (n : Fin 1024) : val_main_v9 (F := Ideal) x0 x2 x3 (ix3 b r n) = ∑ k : Fin 1024, (x2 (ix2 (at2 b r) k) * x3 (ix3 e k n) : EReal) := by
  rw [val_main_v9_apply]
  refine Finset.sum_congr rfl fun k _ => ?_
  refine Ideal.mul_congr ?_ ?_
  · refine Eq.trans ?_ (v1_at x2 b r k)
    congr 1; funext a; match a with | ⟨0, _⟩ => rfl | ⟨1, _⟩ => rfl | ⟨2, _⟩ => rfl
  · refine Eq.trans ?_ (take_w x3 (val_main_v7 (F := Ideal) x0) b k n e ?_)
    · unfold val_main_v8
      congr 1; funext a; match a with | ⟨0, _⟩ => rfl | ⟨1, _⟩ => rfl | ⟨2, _⟩ => rfl
    · rw [val_main_v7_apply]
      refine Eq.trans ?_ (idx_at x0 b e he)
      rw [show idx_main_v7 (ix2 b 0) = ix1 b from by funext a; match a with | ⟨0, _⟩ => rfl]
      rfl

theorem v28_at (r : Fin 256) (n : Fin 1024) : val_main_v28 (F := Ideal) x0 x2 x5 (ix3 b r n) = ∑ k : Fin 1024, (x2 (ix2 (at2 b r) k) * x5 (ix3 e k n) : EReal) := by
  rw [val_main_v28_apply]
  refine Finset.sum_congr rfl fun k _ => ?_
  refine Ideal.mul_congr ?_ ?_
  · refine Eq.trans ?_ (v1_at x2 b r k)
    congr 1; funext a; match a with | ⟨0, _⟩ => rfl | ⟨1, _⟩ => rfl | ⟨2, _⟩ => rfl
  · refine Eq.trans ?_ (take_w x5 (val_main_v26 (F := Ideal) x0) b k n e ?_)
    · unfold val_main_v27
      congr 1; funext a; match a with | ⟨0, _⟩ => rfl | ⟨1, _⟩ => rfl | ⟨2, _⟩ => rfl
    · rw [val_main_v26_apply]
      refine Eq.trans ?_ (idx_at x0 b e he)
      rw [show idx_main_v26 (ix2 b 0) = ix1 b from by funext a; match a with | ⟨0, _⟩ => rfl]
      rfl

theorem v17_at (r : Fin 256) (n : Fin 1024) : val_main_v17 (F := Ideal) x0 x4 (ix3 b r n) = x4 (ix3 e 0 n) := by
  rw [val_main_v17_apply]
  refine Eq.trans ?_ (take_b x4 (val_main_v15 (F := Ideal) x0) b 0 n e ?_)
  · unfold val_main_v16
    congr 1; funext a; match a with | ⟨0, _⟩ => rfl | ⟨1, _⟩ => rfl | ⟨2, _⟩ => rfl
  · rw [val_main_v15_apply]
    refine Eq.trans ?_ (idx_at x0 b e he)
    rw [show idx_main_v15 (ix2 b 0) = ix1 b from by funext a; match a with | ⟨0, _⟩ => rfl]
    rfl

theorem v36_at (r : Fin 256) (n : Fin 1024) : val_main_v36 (F := Ideal) x0 x6 (ix3 b r n) = x6 (ix3 e 0 n) := by
  rw [val_main_v36_apply]
  refine Eq.trans ?_ (take_b x6 (val_main_v34 (F := Ideal) x0) b 0 n e ?_)
  · unfold val_main_v35
    congr 1; funext a; match a with | ⟨0, _⟩ => rfl | ⟨1, _⟩ => rfl | ⟨2, _⟩ => rfl
  · rw [val_main_v34_apply]
    refine Eq.trans ?_ (idx_at x0 b e he)
    rw [show idx_main_v34 (ix2 b 0) = ix1 b from by funext a; match a with | ⟨0, _⟩ => rfl]
    rfl

theorem v66_at (r : Fin 256) (n : Fin 1024) : val_main_v66 (F := Ideal) x0 x8 (ix3 b r n) = x8 (ix3 e 0 n) := by
  rw [val_main_v66_apply]
  refine Eq.trans ?_ (take_b x8 (val_main_v64 (F := Ideal) x0) b 0 n e ?_)
  · unfold val_main_v65
    congr 1; funext a; match a with | ⟨0, _⟩ => rfl | ⟨1, _⟩ => rfl | ⟨2, _⟩ => rfl
  · rw [val_main_v64_apply]
    refine Eq.trans ?_ (idx_at x0 b e he)
    rw [show idx_main_v64 (ix2 b 0) = ix1 b from by funext a; match a with | ⟨0, _⟩ => rfl]
    rfl

/-- The hidden row of the reference. -/
theorem v50_at (r : Fin 256) (k : Fin 1024) : val_main_v50 (F := Ideal) x0 x2 x3 x4 x5 x6 (ix3 b r k)
    = unit (lin (fun k => x2 (ix2 (at2 b r) k)) (fun k n => x3 (ix3 e k n)) (fun n => x4 (ix3 e 0 n)) k)
        (lin (fun k => x2 (ix2 (at2 b r) k)) (fun k n => x5 (ix3 e k n)) (fun n => x6 (ix3 e 0 n)) k) := by
  have one : (Ideal.ofBits .f32 0x3F800000#32 : EReal) = 1 := Ideal.ofBits_one_f32
  have h9 := v9_at x0 x2 x3 b e he r k
  have h28 := v28_at x0 x2 x5 b e he r k
  have h17 := v17_at x0 x4 b e he r k
  have h36 := v36_at x0 x6 b e he r k
  unfold lin
  refine Eq.trans ?_ (congrArg₂ unit (congrArg₂ (fun a b : EReal => a + b) h9 h17) (congrArg₂ (fun a b : EReal => a + b) h28 h36))
  rw [val_main_v50_apply, val_main_v49_apply, val_main_v48_apply, val_main_v47_apply, val_main_v46_apply, val_main_v45_apply, val_main_v44_apply,
    val_main_v43_apply, val_main_v42_apply, val_main_v41_apply, val_main_v40_apply, val_main_v39_apply, val_main_v38_apply, val_main_call0_v4_apply,
    val_main_call0_v2_apply, val_main_call0_v1_apply, val_main_v37_apply, val_main_v20_apply, val_main_v19_apply, val_main_v18_apply]
  generalize val_main_v9 (F := Ideal) x0 x2 x3 (ix3 b r k) = g
  generalize val_main_v28 (F := Ideal) x0 x2 x5 (ix3 b r k) = u
  generalize val_main_v17 (F := Ideal) x0 x4 (ix3 b r k) = p
  generalize val_main_v36 (F := Ideal) x0 x6 (ix3 b r k) = q
  unfold unit Ideal.logistic
  rw [← one]
  rfl

/-- The reference at row `r` of block `b`. -/
theorem ref_at (r : Fin 256) (n : Fin 1024) : val_main_v68 (F := Ideal) x0 x2 x3 x4 x5 x6 x7 x8 (ix2 (at2 b r) n)
    = row (fun k => x2 (ix2 (at2 b r) k)) (fun k n => x3 (ix3 e k n)) (fun n => x4 (ix3 e 0 n)) (fun k n => x5 (ix3 e k n)) (fun n => x6 (ix3 e 0 n))
        (fun k n => x7 (ix3 e k n)) (fun n => x8 (ix3 e 0 n)) n := by
  rw [val_main_v68_apply]
  rw [show idx_main_v68 (ix2 (at2 b r) n) = ix3 b r n from by
    funext a; apply Fin.ext
    match a with
    | ⟨0, _⟩ => show ((b.val * 256 + r.val) * 1024 + n.val) / 262144 = b.val; omega
    | ⟨1, _⟩ => show ((b.val * 256 + r.val) * 1024 + n.val) / 1024 % 256 = r.val; omega
    | ⟨2, _⟩ => show ((b.val * 256 + r.val) * 1024 + n.val) % 1024 = n.val; omega]
  rw [val_main_v67_apply, v66_at x0 x8 b e he r n, val_main_v58_apply]
  unfold row
  rw [lin]
  refine congrArg (fun z : EReal => z + x8 (ix3 e 0 n)) (Finset.sum_congr rfl fun k _ => ?_)
  refine Ideal.mul_congr ?_ ?_
  · refine Eq.trans ?_ (v50_at x0 x2 x3 x4 x5 x6 b e he r k)
    congr 1; funext a; match a with | ⟨0, _⟩ => rfl | ⟨1, _⟩ => rfl | ⟨2, _⟩ => rfl
  · refine Eq.trans ?_ (take_w x7 (val_main_v56 (F := Ideal) x0) b k n e ?_)
    · unfold val_main_v57
      congr 1; funext a; match a with | ⟨0, _⟩ => rfl | ⟨1, _⟩ => rfl | ⟨2, _⟩ => rfl
    · rw [val_main_v56_apply]
      refine Eq.trans ?_ (idx_at x0 b e he)
      rw [show idx_main_v56 (ix2 b 0) = ix1 b from by funext a; match a with | ⟨0, _⟩ => rfl]
      rfl

end Cert.Proof.FfnRef

end
-- ==== Proof.FfnBridge.lean ====
module

public import proofs.«01_k».proof.Defs
public import proofs.«01_k».proof.Proof.FfnIdealValue
public import proofs.«01_k».proof.Proof.FfnRef
public import proofs.«01_k».proof.Proof.FfnPre
public import proofs.«01_k».proof.Proof.Gen.On_rows_written
public import proofs.«01_k».proof.Proof.Gen.ReferenceIdeal.Run

@[expose] public section

/-! The expert feed-forward: in the rows of the blocks in use, what the kernel's grid leaves is what the reference's run
leaves when both start from the same arguments. -/

set_option maxRecDepth 16384

noncomputable section

namespace Cert.Proof.FfnBridge

open Idealize.ShloMosaic Idealize.ShloMosaic.TcCoe Idealize.SL.Sem

theorem lt_of_word (a : Nat) (ha : a < 73728) (w : BitVec 32) (hw : w.toNat ≤ 288) (h : IntOp.cmpi .slt (BitVec.ofNat 32 a) (IntOp.muli 256#32 w) = 1#1) :
    a < w.toNat * 256 := by
  have hb : BitVec.ofBool ((BitVec.ofNat 32 a).slt (256#32 * w)) = 1#1 := h
  have hs : (BitVec.ofNat 32 a).slt (256#32 * w) = true := by revert hb; cases (BitVec.ofNat 32 a).slt (256#32 * w) <;> decide
  have hm : (256#32 * w).toNat = 256 * w.toNat := by
    rw [BitVec.toNat_mul]
    show 256 * w.toNat % 2 ^ 32 = _
    omega
  have hA : (BitVec.ofNat 32 a).toInt = a := by rw [BitVec.toInt_ofNat']; exact Int.bmod_eq_of_le (by omega) (by omega)
  have hW : (256#32 * w).toInt = (256 * w.toNat : Nat) := by rw [BitVec.toInt_eq_toNat_of_lt (by omega), hm]
  rw [BitVec.slt, decide_eq_true_iff, hA, hW] at hs
  omega

/-- A row the mask holds at is a row of a block in use. -/
theorem of_mask (x0 : IVec On_rows_written.S288 32) (x1 : IVec On_rows_written.S1 32) (x2 x3 x4 x5 x6 x7 x8) (i : On_rows_written.S73728x1024.Idx)
    (hx : ∀ k, (x1 k).toNat ≤ 288)
    (h : On_rows_written.fn (F := Ideal) x0 x1 x2 x3 x4 x5 x6 x7 x8 i = 1#1) : ∃ k, (i 0).val < (x1 k).toNat * 256 := by
  have hk : ∃ k, IntOp.cmpi .slt (BitVec.ofNat 32 (i 0).val) (IntOp.muli 256#32 (x1 k)) = 1#1 := ⟨_, h⟩
  obtain ⟨k, hk⟩ := hk
  exact ⟨k, lt_of_word _ (i 0).isLt _ (hx k) hk⟩

open Cert.KernelIdeal Cert.KernelIdeal.Gen in
/-- The call's run: what its result holds, and its arguments unchanged. -/
theorem run_kernel (m : (ℓ : Loc nD τ sig) → Buf (Elt Ideal) ℓ) (ρ : Dev nD → PrngReg) (hR : Rng m) :
    θ_run defs (onTc (τ := τ) (main (F := Ideal))) ⟨m, fun _ => 0, ρ⟩ (fun r =>
      (∀ c : Dev nD, r.2.mem ((c.tc : Thread nD τ).loc main_v0) = (dats m hR 0 c).arrAt 7 (cfgM m (oR m hR)).N)
      ∧ (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))) :=
  θ_run_and ((θ_run defs _ _).mono (fun r h c => (h c).1 7) (run_main m ρ hR)) ((θ_run defs _ _).mono (fun _ h => h.1) (frame m ρ hR))

/-- From equal arguments, the reference's result is the array the kernel's grid leaves, in the rows of the blocks in use. -/
theorem same (m : (ℓ : Loc Cert.KernelIdeal.nD Cert.KernelIdeal.τ Cert.KernelIdeal.sig) → Buf (Elt Ideal) ℓ)
    (hR : Cert.KernelIdeal.Gen.Rng m) (c : Dev Cert.KernelIdeal.nD) (i : Cert.ReferenceIdeal.S73728x1024.Idx) (hi : (i 0).val < Cert.KernelIdeal.Gen.nv m * 256) :
    Cert.ReferenceIdeal.Read.val_main_v68 (F := Ideal) (Cert.KernelIdeal.Gen.tE m) (Cert.Proof.FfnValue.a2 m c) (Cert.Proof.FfnValue.a3 m c) (Cert.Proof.FfnValue.a4 m c)
        (Cert.Proof.FfnValue.a5 m c) (Cert.Proof.FfnValue.a6 m c) (Cert.Proof.FfnValue.a7 m c) (Cert.Proof.FfnValue.a8 m c) i
      = ((Cert.KernelIdeal.Gen.dats m hR 0 c).arrAt 7 (Cert.KernelIdeal.Gen.cfgM m (Cert.KernelIdeal.Gen.oR m hR)).N : Vec Ideal Cert.KernelIdeal.S73728x1024 .f32) i := by
  idx_vars i
  have hle := Cert.KernelIdeal.Gen.nv_le hR
  have hi' : i0.val < Cert.KernelIdeal.Gen.nv m * 256 := hi
  obtain ⟨b, r, hb, rfl⟩ : ∃ (b : Fin 288) (r : Fin 256), b.val < Cert.KernelIdeal.Gen.nv m ∧ i0 = Cert.Proof.FfnRef.at2 b r :=
    ⟨⟨i0.val / 256, by omega⟩, ⟨i0.val % 256, by omega⟩, by show i0.val / 256 < _; omega, Fin.ext (by show i0.val = i0.val / 256 * 256 + i0.val % 256; omega)⟩
  refine Eq.trans ?_ ((Cert.Proof.FfnValue.final m hR c b hb r i1).trans (Cert.Proof.FfnValue.G_at m hR c b r i1)).symm
  refine Cert.Proof.FfnRef.ref_at (Cert.KernelIdeal.Gen.tE m) _ _ _ _ _ _ _ b (Cert.Proof.FfnValue.ex m hR b) ?_ r i1
  show (Cert.KernelIdeal.Gen.tE m _).toNat = (Cert.KernelIdeal.Gen.tE m _).toNat
  refine congrArg (fun k => (Cert.KernelIdeal.Gen.tE m k).toNat) (funext fun a => ?_)
  match a with
  | ⟨0, _⟩ => rfl

end Cert.Proof.FfnBridge

end
-- ==== Proof.lean ====
module

public import proofs.«01_k».proof.Defs
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.InprojBridge
public import proofs.«01_k».proof.Proof.Gen.Reference2Ideal.Run
public import proofs.«01_k».proof.Proof.Gen.Reference2Ideal.Read
public import proofs.«01_k».proof.Proof.Gen.Kernel
public import proofs.«01_k».proof.Proof.Gen.Kernel.Skeleton
public import proofs.«01_k».proof.Proof.Gen.Kernel.Launch
public import proofs.«01_k».proof.Proof.Gen.KernelIdeal
public import proofs.«01_k».proof.Proof.Gen.KernelIdeal.Skeleton
public import proofs.«01_k».proof.Proof.Gen.KernelIdeal.Launch
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_experts_and_count_in_range
public import proofs.«01_k».proof.Proof.Gen.On_rows_written
public import proofs.«01_k».proof.Proof.FfnFrame
public import proofs.«01_k».proof.Proof.FfnIdealFrame
public import proofs.«01_k».proof.Proof.FfnPre
public import proofs.«01_k».proof.Proof.FfnBridge
public import Idealize.ShloMosaic.Adequacy
public import Idealize.ShloMosaic.Init

@[expose] public section

noncomputable section

namespace Cert.Proof

open Idealize.ShloMosaic Idealize.SL.Sem Cert.Kernel2

/-- The input projection: kernel and reference end with the same array. -/
theorem inproj_value :
    Cert.algebraic_Kernel2Ideal_Reference2Ideal (hKernel2Ideal := Cert.Kernel2Ideal.Gen.facts) (hReference2Ideal := Cert.Reference2Ideal.Gen.facts) := by
  intro m g m' g' _ hag
  refine ⟨fun c => (Cert.Kernel2Ideal.Gen.dats m 0 c).arrAt 2 (Cert.Kernel2Ideal.cfgs 0).N, ?_, ?_⟩
  · exact Cert.Kernel2Ideal.Value.run_blocks m g
  · exact (θ_run _ _ _).mono (fun r h c => ⟨(h c).1.trans (Cert.Proof.Bridge.same m m' c (hag c).1 (hag c).2), (h c).2.1, (h c).2.2⟩)
      (Cert.Reference2Ideal.Value.run m' g')

/-- The reference of the input projection runs and leaves its arguments and counters. -/
theorem inproj_ref_frame : Cert.quiescent_Reference2Ideal (hReference2Ideal := Cert.Reference2Ideal.Gen.facts) := fun m ρ _ =>
  (θ_run _ _ _).mono (fun r h => ⟨fun c => (h c).2, Idealize.ShloMosaic.sem_eq_zero_of_no_sems (by decide) r.2⟩)
    (Cert.Reference2Ideal.Value.run m ρ)

/-- The expert feed-forward: kernel and reference end with the same rows in the blocks in use. -/
theorem ffn_value : Cert.algebraic_KernelIdeal_ReferenceIdeal_on_rows_written (hKernelIdeal := Cert.KernelIdeal.Gen.facts) (hReferenceIdeal := Cert.ReferenceIdeal.Gen.facts)
    (hPre_experts_and_count_in_range := Cert.Pre_experts_and_count_in_range.Gen.facts) (hOn_rows_written := Cert.On_rows_written.Gen.facts) := by
  intro m g m' g' hp hag
  have hR := Cert.Proof.FfnPre.rng_ideal m hp
  refine ⟨fun c => (Cert.KernelIdeal.Gen.dats m hR 0 c).arrAt 7 (Cert.KernelIdeal.Gen.cfgM m (Cert.KernelIdeal.Gen.oR m hR)).N, ?_, ?_⟩
  · exact (θ_run _ _ _).mono (fun r h c => ⟨fun i _ => congrFun (h.1 c) i, h.2 c⟩) (Cert.Proof.FfnBridge.run_kernel m g hR)
  · refine (θ_run _ _ _).mono (fun r h c => ⟨fun i hi => ?_, (h c).2⟩) (Cert.ReferenceIdeal.Value.run m' g')
    obtain rfl : c = 0 := Subsingleton.elim _ _
    obtain ⟨k, hk⟩ := Cert.Proof.FfnBridge.of_mask _ _ _ _ _ _ _ _ _ i (fun k => (hR.2 k).2) hi
    have hk' : (i 0).val < Cert.KernelIdeal.Gen.nv m * 256 := by rw [← Cert.KernelIdeal.Gen.tN_eq m k]; exact hk
    obtain ⟨h0, h1, h2, h3, h4, h5, h6, h7, h8⟩ := hag 0
    refine (congrFun ((h 0).1.trans (Cert.ReferenceIdeal.Read.val_main_v68_eq m' 0)) i).trans ?_
    rw [h0, h2, h3, h4, h5, h6, h7, h8]
    exact Cert.Proof.FfnBridge.same m hR 0 i hk'

/-- The reference of the expert feed-forward runs and leaves its arguments and counters. -/
theorem ffn_ref_frame : Cert.quiescent_ReferenceIdeal (hReferenceIdeal := Cert.ReferenceIdeal.Gen.facts) (hPre_experts_and_count_in_range := Cert.Pre_experts_and_count_in_range.Gen.facts) := fun m ρ _ =>
  (θ_run _ _ _).mono (fun r h => ⟨fun c => (h c).2, Idealize.ShloMosaic.sem_eq_zero_of_no_sems (by decide) r.2⟩)
    (Cert.ReferenceIdeal.Value.run m ρ)

theorem claim : Cert.Claim := ⟨Cert.Kernel2.Gen.facts, Cert.Kernel2Ideal.Gen.facts, Cert.Reference2Ideal.Gen.facts,
  Cert.Kernel.Gen.facts, Cert.KernelIdeal.Gen.facts, Cert.ReferenceIdeal.Gen.facts, Cert.Pre_experts_and_count_in_range.Gen.facts, Cert.On_rows_written.Gen.facts,
  fun m ρ _ => Cert.Kernel2.Gen.frame m ρ, fun m ρ _ => Cert.Kernel2Ideal.Gen.frame m ρ, inproj_ref_frame,
  fun m ρ hp => Cert.Kernel.Gen.frame m ρ (Cert.Proof.FfnPre.rng_kernel m hp), fun m ρ hp => Cert.KernelIdeal.Gen.frame m ρ (Cert.Proof.FfnPre.rng_ideal m hp), ffn_ref_frame,
  trivial, inproj_value, trivial, ffn_value⟩

end Cert.Proof

end
